-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x256 .f32) (main_arg2 : FVec F S2x256x16x64 .f32) (main_arg3 : FVec F S2x256x16x64 .f32) (main_arg4 : FVec F S256x512 .f32) : IVec S2x256x512 1 × IVec S512x256 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Pre_finite_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x1024 .f32) (main_arg2 : FVec F S2x256x16x64 .f32) (main_arg3 : FVec F S2x256x16x64 .f32) (main_arg4 : FVec F S1024x512 .f32) : IVec S2x256x512 1 × IVec S512x1024 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩
abbrev S2x256x4x64 : Shape := ⟨4, ![2, 256, 4, 64]⟩
abbrev S2x256x256 : Shape := ⟨3, ![2, 256, 256]⟩
abbrev S5 : Shape := ⟨1, ![5]⟩
abbrev S2x4 : Shape := ⟨2, ![2, 4]⟩
abbrev S1 : Shape := ⟨1, ![1]⟩
abbrev S1x256x512 : Shape := ⟨3, ![1, 256, 512]⟩
abbrev S256x256 : Shape := ⟨2, ![256, 256]⟩
abbrev S256x64 : Shape := ⟨2, ![256, 64]⟩
abbrev S1x256x256 : Shape := ⟨3, ![1, 256, 256]⟩
abbrev S128x64 : Shape := ⟨2, ![128, 64]⟩
abbrev S192x64 : Shape := ⟨2, ![192, 64]⟩
abbrev S128x192 : Shape := ⟨2, ![128, 192]⟩
abbrev S128 : Shape := ⟨1, ![128]⟩
abbrev S128x1 : Shape := ⟨2, ![128, 1]⟩
abbrev S64x64 : Shape := ⟨2, ![64, 64]⟩
abbrev S128x128 : Shape := ⟨2, ![128, 128]⟩
abbrev S128x256 : Shape := ⟨2, ![128, 256]⟩
abbrev S128x512 : Shape := ⟨2, ![128, 512]⟩
abbrev S1x128x512 : Shape := ⟨3, ![1, 128, 512]⟩
abbrev S1x1 : Shape := ⟨2, ![1, 1]⟩
abbrev S1x64x512 : Shape := ⟨3, ![1, 64, 512]⟩
abbrev S64x512 : Shape := ⟨2, ![64, 512]⟩

abbrev nBuf : Space → Nat
  | .hbm => 38
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .f32⟩
  | .hbm, ⟨22, _⟩ => ⟨S2x256x256, .f32⟩
  | .hbm, ⟨23, _⟩ => ⟨S2x256x256, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x256x4x64, .f32⟩
  | .hbm, ⟨35, _⟩ => ⟨S2x256x256, .f32⟩
  | .hbm, ⟨36, _⟩ => ⟨S2x256x256, .bf16⟩
  | .hbm, ⟨37, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x256, .bf16⟩
  | .local _ .vmem, ⟨3, _⟩ => ⟨S2x256x256, .bf16⟩
  | .local _ .vmem, ⟨4, _⟩ => ⟨S256x512, .f32⟩
  | .local _ .vmem, ⟨5, _⟩ => ⟨S2x256x512, .f32⟩
  | .local _ .vmem, ⟨6, _⟩ => ⟨S2x256x512, .bf16⟩
  | .local _ .vmem, ⟨7, _⟩ => ⟨S2x256x512, .bf16⟩
  | .local _ .vmem, ⟨8, _⟩ => ⟨S2x256x512, .bf16⟩
  | .local _ .vmem, ⟨9, _⟩ => ⟨S2x256x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v38 : BitVec 32 := Scalar.muli v13 c1_i32_19
  let v39 : BitVec 32 := Scalar.addi c0_i32_20 v38
  v39.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22 : BitVec 32 := 1#32
  let v40 : BitVec 32 := Scalar.muli v24 c1_i32_22
  let v41 : BitVec 32 := Scalar.addi c0_i32_23 v40
  v41.toNat
def k0_dev3 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_106 : BitVec 32 := 1#32
  let v248 : BitVec 32 := Scalar.muli v25 c1_i32_106
  let v249 : BitVec 32 := Scalar.addi c0_i32_107 v248
  v249.toNat
def k0_dev4 (d0 : Dev nD) : Nat :=
  let c0_i32_119 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_118 : BitVec 32 := 1#32
  let v258 : BitVec 32 := Scalar.muli v26 c1_i32_118
  let v259 : BitVec 32 := Scalar.addi c0_i32_119 v258
  v259.toNat
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_135 : BitVec 32 := 1#32
  let v277 : BitVec 32 := Scalar.muli v25 c1_i32_135
  let v278 : BitVec 32 := Scalar.addi c0_i32_136 v277
  v278.toNat
def k0_dev6 (d0 : Dev nD) : Nat :=
  let c0_i32_147 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_146 : BitVec 32 := 1#32
  let v287 : BitVec 32 := Scalar.muli v26 c1_i32_146
  let v288 : BitVec 32 := Scalar.addi c0_i32_147 v287
  v288.toNat
def k0_dev7 (d0 : Dev nD) : Nat :=
  let c0_i32_224 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_223 : BitVec 32 := 1#32
  let v487 : BitVec 32 := Scalar.muli v26 c1_i32_223
  let v488 : BitVec 32 := Scalar.addi c0_i32_224 v487
  v488.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_235 : BitVec 32 := 1#32
  let v497 : BitVec 32 := Scalar.muli v25 c1_i32_235
  let v498 : BitVec 32 := Scalar.addi c0_i32_236 v497
  v498.toNat
def k0_dev9 (d0 : Dev nD) : Nat :=
  let c0_i32_255 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_254 : BitVec 32 := 1#32
  let v516 : BitVec 32 := Scalar.muli v26 c1_i32_254
  let v517 : BitVec 32 := Scalar.addi c0_i32_255 v516
  v517.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_266 : BitVec 32 := 1#32
  let v526 : BitVec 32 := Scalar.muli v25 c1_i32_266
  let v527 : BitVec 32 := Scalar.addi c0_i32_267 v526
  v527.toNat
def k0_dev11 (d0 : Dev nD) : Nat :=
  let c0_i32_314 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_313 : BitVec 32 := 1#32
  let v563 : BitVec 32 := Scalar.muli v26 c1_i32_313
  let v564 : BitVec 32 := Scalar.addi c0_i32_314 v563
  v564.toNat
def k0_dev12 (d0 : Dev nD) : Nat :=
  let c0_i32_360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_359 : BitVec 32 := 1#32
  let v600 : BitVec 32 := Scalar.muli v25 c1_i32_359
  let v601 : BitVec 32 := Scalar.addi c0_i32_360 v600
  v601.toNat
def k0_dev13 (d0 : Dev nD) : Nat :=
  let c0_i32_407 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_406 : BitVec 32 := 1#32
  let v637 : BitVec 32 := Scalar.muli v26 c1_i32_406
  let v638 : BitVec 32 := Scalar.addi c0_i32_407 v637
  v638.toNat
def k0_dev14 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_452 : BitVec 32 := 1#32
  let v674 : BitVec 32 := Scalar.muli v25 c1_i32_452
  let v675 : BitVec 32 := Scalar.addi c0_i32_453 v674
  v675.toNat
def k0_dev15 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_499 : BitVec 32 := 1#32
  let v711 : BitVec 32 := Scalar.muli v25 c1_i32_499
  let v712 : BitVec 32 := Scalar.addi c0_i32_500 v711
  v712.toNat
def k0_dev16 (d0 : Dev nD) : Nat :=
  let c0_i32_547 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_546 : BitVec 32 := 1#32
  let v748 : BitVec 32 := Scalar.muli v26 c1_i32_546
  let v749 : BitVec 32 := Scalar.addi c0_i32_547 v748
  v749.toNat
def k0_dev17 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.xori v2 c1_i32_13
  let c1_i32_593 : BitVec 32 := 1#32
  let v785 : BitVec 32 := Scalar.muli v25 c1_i32_593
  let v786 : BitVec 32 := Scalar.addi c0_i32_594 v785
  v786.toNat
def k0_dev18 (d0 : Dev nD) : Nat :=
  let c0_i32_641 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.subi c3_i32 v2
  let c1_i32_640 : BitVec 32 := 1#32
  let v822 : BitVec 32 := Scalar.muli v26 c1_i32_640
  let v823 : BitVec 32 := Scalar.addi c0_i32_641 v822
  v823.toNat
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x16x64, .f32⟩
  | .hbm, ⟨3, _⟩ => ⟨S2x256x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S2x16x256x256, .f32⟩
  | .hbm, ⟨85, _⟩ => ⟨S_, .f32⟩
  | .hbm, ⟨86, _⟩ => ⟨S2x16x256x256, .f32⟩
  | .hbm, ⟨87, _⟩ => ⟨S2x16x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S2x16x256x256, .i1⟩
  | .hbm, ⟨92, _⟩ => ⟨S2x16x256x256, .f32⟩
  | .hbm, ⟨93, _⟩ => ⟨S2x16x256x256, .f32⟩
  | .hbm, ⟨94, _⟩ => ⟨S_, .f32⟩
  | .hbm, ⟨95, _⟩ => ⟨S2x16x256, .f32⟩
  | .hbm, ⟨96, _⟩ => ⟨S2x16x256x1, .f32⟩
  | .hbm, ⟨97, _⟩ => ⟨S2x16x256x256, .f32⟩
  | .hbm, ⟨98, _⟩ => ⟨S2x16x256x256, .f32⟩
  | .hbm, ⟨99, _⟩ => ⟨S2x16x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x16x256, .f32⟩
  | .hbm, ⟨105, _⟩ => ⟨S2x16x256x1, .f32⟩
  | .hbm, ⟨106, _⟩ => ⟨S_, .f32⟩
  | .hbm, ⟨107, _⟩ => ⟨S_, .f32⟩
  | .hbm, ⟨108, _⟩ => ⟨S2x16x256x1, .i1⟩
  | .hbm, ⟨109, _⟩ => ⟨S2x16x256x1, .f32⟩
  | .hbm, ⟨110, _⟩ => ⟨S2x16x256x1, .f32⟩
  | .hbm, ⟨111, _⟩ => ⟨S2x16x256x256, .f32⟩
  | .hbm, ⟨112, _⟩ => ⟨S2x16x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x16x256x256, .i1⟩
  | .hbm, ⟨117, _⟩ => ⟨S2x16x256x256, .f32⟩
  | .hbm, ⟨118, _⟩ => ⟨S2x16x256x256, .f32⟩
  | .hbm, ⟨119, _⟩ => ⟨S2x16x64x256, .f32⟩
  | .hbm, ⟨120, _⟩ => ⟨S2x256x16x64, .f32⟩
  | .hbm, ⟨121, _⟩ => ⟨S2x256x1024, .f32⟩
  | .hbm, ⟨122, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Contents.lean ====
module

public import proofs.«01_k».proof.Proof.Gen.KernelIdeal.Launch
public import proofs.«01_k».proof.Proof.Gen.KernelIdeal.Regions
public import proofs.«01_k».proof.Proof.Gen.KernelIdeal.Skeleton

/-! What the buffers of the kernel hold at each stage, as plain functions of the launch memory. Stated over any float
    values `F`; no separation logic here. -/

@[expose] public section

noncomputable section

namespace Cert.KernelIdeal.Attn

open Idealize.ShloMosaic Idealize.ShloMosaic.TcCoe Idealize.SL.Sem
open Cert.KernelIdeal Cert.KernelIdeal.Gen

variable {F : FTy → Type} [FloatOps F]

/-! ## Partners -/

/-- The partner across the first bit of the device number. -/
def pa (c : Dev nD) : Dev nD := ⟨if c.val % 2 = 0 then c.val + 1 else c.val - 1, by have h : c.val < 4 := c.isLt; show _ < 4; split <;> omega⟩
/-- The partner at the mirrored place. -/
def pb (c : Dev nD) : Dev nD := ⟨3 - c.val, by have h : c.val < 4 := c.isLt; show _ < 4; omega⟩
/-- The first partner's first partner is the device itself. -/
theorem pa_pa : ∀ c : Dev nD, pa (pa c) = c := by decide
/-- The second partner's second partner is the device itself. -/
theorem pb_pb : ∀ c : Dev nD, pb (pb c) = c := by decide

/-- Chunk `k` is (batch `k / 4`, 64-row block `k % 4`); its parity decides which partner it is exchanged with first. -/
def even (k : Fin 8) : Bool := decide ((k.val / 4 + k.val % 4) % 2 = 0)
/-- The partner of the first exchange of chunk `k`. -/
def p1 (c : Dev nD) (k : Fin 8) : Dev nD := if even k then pa c else pb c
/-- The partner of the second exchange of chunk `k`. -/
def p2 (c : Dev nD) (k : Fin 8) : Dev nD := if even k then pb c else pa c
/-- A chunk's partner in the first exchange has this device as its own. -/
theorem p1_p1 : ∀ (c : Dev nD) (k : Fin 8), p1 (p1 c k) k = c := by decide
/-- A chunk's partner in the second exchange has this device as its own. -/
theorem p2_p2 : ∀ (c : Dev nD) (k : Fin 8), p2 (p2 c k) k = c := by decide

/-! ## One head of one batch -/

/-- Columns `64 h` to `64 h + 63`. -/
def colS {α : Type} (h : Fin 4) (v : S256x256.Idx → α) : S256x64.Idx → α :=
  extractStridedSlice S256x64 ![0, 64 * h.val] v (by revert h; decide)

/-- A row-normalised weight matrix: the exponentials over their row sum. -/
def softA (s : FVec F S128x192 .f32) : FVec F S128x192 .bf16 :=
  truncf .bf16 (mulf (exp s) (broadcastTo S128x192 (divf (broadcast S128x1 (Scalar.ofBits .f32 0x3F800000#32 : F .f32))
    (shapeCast S128x1 (multiReduction .add [1] S128 (exp s) 0x00000000#32 reduces_S128x192_S128 (.inl rfl) rfl) shapeCasts_S128_S128x1))
      broadcasts_S128x1_S128x192)) bitsLt_bf16_f32
/-- The same at 128 columns. -/
def softB (s : FVec F S128x128 .f32) : FVec F S128x128 .bf16 :=
  truncf .bf16 (mulf (exp s) (broadcastTo S128x128 (divf (broadcast S128x1 (Scalar.ofBits .f32 0x3F800000#32 : F .f32))
    (shapeCast S128x1 (multiReduction .add [1] S128 (exp s) 0x00000000#32 reduces_S128x128_S128 (.inl rfl) rfl) shapeCasts_S128_S128x1))
      broadcasts_S128x1_S128x128)) bitsLt_bf16_f32

/-- Rows 0–63 above rows 192–255. -/
def ends (v : FVec F S256x64 .bf16) : FVec F S128x64 .bf16 :=
  concatenate S128x64 0 [⟨S64x64, extractStridedSlice S64x64 ![0, 0] v slices_S256x64_o0_0_S64x64⟩,
    ⟨S64x64, extractStridedSlice S64x64 ![192, 0] v slices_S256x64_o192_0_S64x64⟩] concatenates_S64x64_S64x64_S128x64_d0
/-- Rows 0–191. -/
def first192 (v : FVec F S256x64 .bf16) : FVec F S192x64 .bf16 :=
  extractStridedSlice S192x64 ![0, 0] v slices_S256x64_o0_0_S192x64

/-- Query rows 64–191: scores against keys 0–191, normalised, times the values. -/
def midOut (q k v : FVec F S256x64 .bf16) : FVec F S128x64 .f32 :=
  matmul dot_S128x192_S192x64_S128x64_1_0_0_1_n_n none
    (softA (matmul dot_S128x64_S192x64_S128x192_1_1_0_0_n_n none
      (extractStridedSlice S128x64 ![64, 0] q slices_S256x64_o64_0_S128x64) (first192 k) (constant S128x192 .f32 0x00000000#32)))
    (first192 v) (constant S128x64 .f32 0x00000000#32)
/-- Query rows 0–63 and 192–255: scores against keys 0–63 and 192–255, normalised, times the values. -/
def endOut (q k v : FVec F S256x64 .bf16) : FVec F S128x64 .f32 :=
  matmul dot_S128x128_S128x64_S128x64_1_0_0_1_n_n none
    (softB (matmul dot_S128x64_S128x64_S128x128_1_1_0_0_n_n none (ends q) (ends k) (constant S128x128 .f32 0x00000000#32)))
    (ends v) (constant S128x64 .f32 0x00000000#32)
/-- One head: the 256 rows put back in order. -/
def headCore (q k v : FVec F S256x64 .bf16) : FVec F S256x64 .bf16 :=
  truncf .bf16 (concatenate S256x64 0
    [⟨S64x64, extractStridedSlice S64x64 ![0, 0] (endOut q k v) slices_S128x64_o0_0_S64x64⟩, ⟨S128x64, midOut q k v⟩,
      ⟨S64x64, extractStridedSlice S64x64 ![64, 0] (endOut q k v) slices_S128x64_o64_0_S64x64⟩]
    concatenates_S64x64_S128x64_S64x64_S256x64_d0) bitsLt_bf16_f32

/-- Head `h` from the projected queries and the loaded key and value blocks. -/
def headOut (h : Fin 4) (qa : FVec F S256x256 .f32) (kb vb : Vec F S1x256x256 .bf16) : FVec F S256x64 .bf16 :=
  headCore (truncf .bf16 (colS h qa) bitsLt_bf16_f32) (colS h (shapeCast S256x256 kb shapeCasts_S1x256x256_S256x256))
    (colS h (shapeCast S256x256 vb shapeCasts_S1x256x256_S256x256))
/-- The four heads side by side. -/
def ctxOf (qa : FVec F S256x256 .f32) (kb vb : Vec F S1x256x256 .bf16) : FVec F S256x256 .bf16 :=
  concatenate S256x256 1 [⟨S256x64, headOut 0 qa kb vb⟩, ⟨S256x64, headOut 1 qa kb vb⟩, ⟨S256x64, headOut 2 qa kb vb⟩,
    ⟨S256x64, headOut 3 qa kb vb⟩] concatenates_S256x64_S256x64_S256x64_S256x64_S256x256_d1
/-- The projected queries of one batch. -/
def qOf (xb : Vec F S1x256x512 .f32) (wq : Vec F S512x256 .f32) : FVec F S256x256 .f32 :=
  matmul dot_S256x512_S512x256_S256x256_1_0_0_1_n_n none (k0_pay4 xb) (k0_pay2 wq) (constant S256x256 .f32 0x00000000#32)
/-- 128 rows of the heads' output times the output weights. -/
def tile (h : Fin 2) (ctx : FVec F S256x256 .bf16) (wo : Vec F S256x512 .f32) : FVec F S128x512 .f32 :=
  matmul dot_S128x256_S256x512_S128x512_1_0_0_1_n_n none
    (extractStridedSlice S128x256 ![128 * h.val, 0] ctx (by revert h; decide)) (k0_pay3 wo) (constant S128x512 .f32 0x00000000#32)

/-! ## The buffers' contents -/

variable (m : (ℓ : Loc nD τ sig) → Buf (Elt F) ℓ)

def xC (c : Dev nD) : Vec F S2x256x512 .f32 := V1 m c main_arg0
def wqC (c : Dev nD) : Vec F S512x256 .f32 := V1 m c main_arg1
def kC (c : Dev nD) : Vec F S2x256x256 .bf16 := V1 m c main_v11
def vC (c : Dev nD) : Vec F S2x256x256 .bf16 := V1 m c main_v18
def woC (c : Dev nD) : Vec F S256x512 .f32 := V1 m c main_arg4

/-- Batch `b` of a three-dimensional block, the batch axis kept. -/
def slab {α : Type} (b : Fin 2) (v : S2x256x512.Idx → α) : S1x256x512.Idx → α :=
  fun i => v ((Rect.unit (s := S2x256x512) ![b.val, 0, 0] S1x256x512.size (by revert b; decide)).emb i)
def slabK {α : Type} (b : Fin 2) (v : S2x256x256.Idx → α) : S1x256x256.Idx → α :=
  fun i => v ((Rect.unit (s := S2x256x256) ![b.val, 0, 0] S1x256x256.size (by revert b; decide)).emb i)

/-- The device's heads' output at batch `b`. -/
def ctxC (c : Dev nD) (b : Fin 2) : FVec F S256x256 .bf16 :=
  ctxOf (qOf (slab b (xC m c)) (wqC m c)) (slabK b (kC m c)) (slabK b (vC m c))
/-- The tile of batch `b` and half `h` of this device's partial product. -/
def tileC (c : Dev nD) (b : Fin 2) (h : Fin 2) : FVec F S128x512 .f32 := tile h (ctxC m c b) (woC m c)

/-- The tile an index of the whole block lies in, and its place there. -/
def bOf (i : S2x256x512.Idx) : Fin 2 := ⟨(i 0).val, (i 0).isLt⟩
def hOf (i : S2x256x512.Idx) : Fin 2 := ⟨(i 1).val / 128, by have : (i 1).val < 256 := (i 1).isLt; omega⟩
def inTile (i : S2x256x512.Idx) : S128x512.Idx := fun a => match a with
  | 0 => ⟨(i 1).val % 128, Nat.mod_lt _ (by decide)⟩
  | 1 => ⟨(i 2).val, (i 2).isLt⟩
/-- The half (of four) and the chunk (of eight) an index lies in. -/
def half (i : S2x256x512.Idx) : Fin 4 := ⟨2 * (i 0).val + (i 1).val / 128, by
  have h0 : (i 0).val < 2 := (i 0).isLt; have h1 : (i 1).val < 256 := (i 1).isLt; omega⟩
def chunk (i : S2x256x512.Idx) : Fin 8 := ⟨4 * (i 0).val + (i 1).val / 64, by
  have h0 : (i 0).val < 2 := (i 0).isLt; have h1 : (i 1).val < 256 := (i 1).isLt; omega⟩

/-- The accumulator after the tiles: this device's partial product. -/
def A0 (c : Dev nD) : Vec F S2x256x512 .f32 := fun i => tileC m c (bOf i) (hOf i) (inTile i)
/-- What the first exchange sends. -/
def SA (c : Dev nD) : Vec F S2x256x512 .bf16 := fun i => FloatOps.truncf .bf16 bitsLt_bf16_f32 (A0 m c i)
/-- The accumulator after the first exchange. -/
def A1 (c : Dev nD) : Vec F S2x256x512 .f32 :=
  fun i => FloatOps.addf (A0 m c i) (FloatOps.extf .f32 bitsLt_bf16_f32 (SA m (p1 c (chunk i)) i))
/-- What the second exchange sends. -/
def SB (c : Dev nD) : Vec F S2x256x512 .bf16 := fun i => FloatOps.truncf .bf16 bitsLt_bf16_f32 (A1 m c i)
/-- The accumulator after the second exchange: the result. -/
def A2 (c : Dev nD) : Vec F S2x256x512 .f32 :=
  fun i => FloatOps.addf (A1 m c i) (FloatOps.extf .f32 bitsLt_bf16_f32 (SB m (p2 c (chunk i)) i))

/-! ## The printed payloads are these -/

section Pays
variable (x : Vec F S1x256x512 .f32) (wq : Vec F S512x256 .f32) (q : FVec F S256x256 .f32) (k v k' v' : Vec F S1x256x256 .bf16)
  (wo : Vec F S256x512 .f32) (ctx : FVec F S256x256 .bf16) (a b d : FVec F S256x64 .bf16)

/-- Batch 0: the projected queries. -/
theorem pay5_eq : k0_pay5 (k0_pay2 wq) (k0_pay4 x) (constant S256x256 .f32 0x00000000#32) = qOf x wq := rfl
/-- Batch 0, head 0. -/
theorem pay6_eq : k0_pay6 (k0_pay2 wq) (k0_pay4 x) (constant S256x256 .f32 0x00000000#32) k v = headOut 0 (qOf x wq) k v := rfl
/-- Batch 0, head 1. -/
theorem pay8_eq : k0_pay8 (k0_pay7 (k0_pay2 wq) (k0_pay4 x) (constant S256x256 .f32 0x00000000#32)) k v = headOut 1 (qOf x wq) k v := rfl
/-- Batch 0, head 2. -/
theorem pay10_eq : k0_pay10 (k0_pay9 q) k v = headOut 2 q k v := rfl
/-- Batch 0: the four heads. -/
theorem pay12_eq : k0_pay12 (headOut 0 q k v) (headOut 1 q k v) (headOut 2 q k v) (k0_pay11 q) k v = ctxOf q k v := rfl
/-- Batch 0: the first tile. -/
theorem pay13_eq : k0_pay13 (k0_pay3 wo) (headOut 0 q k v) (headOut 1 q k v) (headOut 2 q k v) (k0_pay11 q) k v
    = tile 0 (ctxOf q k v) wo := rfl
/-- The first tile as stored. -/
theorem pay14_eq : k0_pay14 (tile 0 ctx wo) = shapeCast S1x128x512 (tile 0 ctx wo) shapeCasts_S128x512_S1x128x512 := rfl
/-- A value that the body stores, as the named function of the loaded buffers. -/
theorem pay15_eq : k0_pay15 (tile 0 ctx wo)
    = shapeCast S1x128x512 (truncf .bf16 (tile 0 ctx wo) bitsLt_bf16_f32) shapeCasts_S128x512_S1x128x512 := rfl
/-- A value that the body stores, as the named function of the loaded buffers. -/
theorem pay18_eq : k0_pay18 (k0_pay3 wo) (k0_pay16 ctx) (constant S128x512 .f32 0x00000000#32)
    = shapeCast S1x128x512 (tile 1 ctx wo) shapeCasts_S128x512_S1x128x512 := rfl
/-- A value that the body stores, as the named function of the loaded buffers. -/
theorem pay19_eq : k0_pay19 (k0_pay3 wo) (k0_pay16 ctx) (constant S128x512 .f32 0x00000000#32)
    = shapeCast S1x128x512 (truncf .bf16 (tile 1 ctx wo) bitsLt_bf16_f32) shapeCasts_S128x512_S1x128x512 := rfl
/-- Batch 1: the projected queries. -/
theorem pay20_eq : k0_pay20 (k0_pay2 wq) x = qOf x wq := rfl
/-- Batch 1, head 0. -/
theorem pay28_eq : k0_pay28 (k0_pay24 (k0_pay2 wq) x k v) (k0_pay25 v) (k0_pay26 (k0_pay2 wq) x k) (k0_pay27 (k0_pay2 wq) x k)
    = headOut 0 (qOf x wq) k v := rfl
/-- Batch 1, head 1. -/
theorem pay35_eq : k0_pay35 (k0_pay32 q k v) (k0_pay33 v) (k0_pay34 q k) = headOut 1 q k v := rfl
/-- Batch 1, head 2. -/
theorem pay41_eq : k0_pay41 (k0_pay39 q k v) (k0_pay40 q k v) = headOut 2 q k v := rfl
/-- Batch 1: the four heads. -/
theorem pay49_eq : k0_pay49 (headOut 0 q k v) (headOut 1 q k v) (headOut 2 q k v) (k0_pay45 q k v) (k0_pay47 q k v) (k0_pay48 q k v)
    = ctxOf q k v := rfl
/-- A value that the body stores, as the named function of the loaded buffers. -/
theorem pay51_eq : k0_pay51 (k0_pay3 wo) (headOut 0 q k v) (headOut 1 q k v) (headOut 2 q k v) (k0_pay45 q k v) (k0_pay47 q k v)
    (k0_pay48 q k v) = shapeCast S1x128x512 (tile 0 (ctxOf q k v) wo) shapeCasts_S128x512_S1x128x512 := rfl
/-- A value that the body stores, as the named function of the loaded buffers. -/
theorem pay52_eq : k0_pay52 (k0_pay3 wo) (headOut 0 q k v) (headOut 1 q k v) (headOut 2 q k v) (k0_pay45 q k v) (k0_pay47 q k v)
    (k0_pay48 q k v)
    = shapeCast S1x128x512 (truncf .bf16 (tile 0 (ctxOf q k v) wo) bitsLt_bf16_f32) shapeCasts_S128x512_S1x128x512 := rfl
/-- A value that the body stores, as the named function of the loaded buffers. -/
theorem pay54_eq : k0_pay54 (k0_pay3 wo) ctx = shapeCast S1x128x512 (tile 1 ctx wo) shapeCasts_S128x512_S1x128x512 := rfl
/-- A value that the body stores, as the named function of the loaded buffers. -/
theorem pay55_eq : k0_pay55 (k0_pay3 wo) ctx
    = shapeCast S1x128x512 (truncf .bf16 (tile 1 ctx wo) bitsLt_bf16_f32) shapeCasts_S128x512_S1x128x512 := rfl

end Pays

end Cert.KernelIdeal.Attn
end
-- ==== Proof.Ops.lean ====
module

public import proofs.«01_k».proof.Proof.Contents

/-! The kernel's steps by name, over a chunk or half number instead of printed offsets, the printed parts rewritten in them, and
    the whole body as one list of steps. -/

@[expose] public section

set_option maxRecDepth 65536

noncomputable section

namespace Cert.KernelIdeal.Attn

open Idealize.ShloMosaic Idealize.ShloMosaic.TcCoe Idealize.SL.Sem
open Cert.KernelIdeal Cert.KernelIdeal.Gen

variable {F : FTy → Type} [FloatOps F]

/-- The type of the kernel's programs. -/
abbrev PP (F : FTy → Type) : Type → Type 1 := Prog (TpuEff nD τ sig (Elt F) Λ₀ .tc)

/-! ## Rectangles, views, semaphores -/

/-- Where chunk `k` starts, and where half `h` starts. -/
def offC (k : Fin 8) : Fin 3 → ℕ := ![k.val / 4, 64 * (k.val % 4), 0]
def offH (h : Fin 4) : Fin 3 → ℕ := ![h.val / 2, 128 * (h.val % 2), 0]
/-- A chunk lies inside its buffer. -/
theorem inbC (k : Fin 8) : ∀ a, offC k a + S1x64x512.size a ≤ S2x256x512.size a := by revert k; decide
/-- A half lies inside its buffer. -/
theorem inbH (h : Fin 4) : ∀ a, offH h a + S1x128x512.size a ≤ S2x256x512.size a := by revert h; decide
/-- Chunk `k`, and half `h`, of a 2x256x512 buffer. -/
abbrev rC (k : Fin 8) : Rect S2x256x512 := Rect.unit (s := S2x256x512) (offC k) S1x64x512.size (inbC k)
abbrev rH (h : Fin 4) : Rect S2x256x512 := Rect.unit (s := S2x256x512) (offH h) S1x128x512.size (inbH h)
/-- A chunk consists of whole words. -/
theorem wordsC (k : Fin 8) : (rC k).WholeWords (EltTy.packing .bf16) := match k with
  | 0 => wordsbf16_S2x256x512_S1x64x512_0_0_0
  | 1 => wordsbf16_S2x256x512_S1x64x512_0_64_0
  | 2 => wordsbf16_S2x256x512_S1x64x512_0_128_0
  | 3 => wordsbf16_S2x256x512_S1x64x512_0_192_0
  | 4 => wordsbf16_S2x256x512_S1x64x512_1_0_0
  | 5 => wordsbf16_S2x256x512_S1x64x512_1_64_0
  | 6 => wordsbf16_S2x256x512_S1x64x512_1_128_0
  | 7 => wordsbf16_S2x256x512_S1x64x512_1_192_0
/-- A chunk consists of packed rows. -/
theorem packedC (k : Fin 8) : (rC k).PackedRows (EltTy.packing .bf16) := match k with
  | 0 => packedbf16_S2x256x512_S1x64x512_0_0_0
  | 1 => packedbf16_S2x256x512_S1x64x512_0_64_0
  | 2 => packedbf16_S2x256x512_S1x64x512_0_128_0
  | 3 => packedbf16_S2x256x512_S1x64x512_0_192_0
  | 4 => packedbf16_S2x256x512_S1x64x512_1_0_0
  | 5 => packedbf16_S2x256x512_S1x64x512_1_64_0
  | 6 => packedbf16_S2x256x512_S1x64x512_1_128_0
  | 7 => packedbf16_S2x256x512_S1x64x512_1_192_0
/-- A half consists of packed rows. -/
theorem packedH (h : Fin 4) : (rH h).PackedRows (EltTy.packing .bf16) := match h with
  | 0 => packedbf16_S2x256x512_S1x128x512_0_0_0
  | 1 => packedbf16_S2x256x512_S1x128x512_0_128_0
  | 2 => packedbf16_S2x256x512_S1x128x512_1_0_0
  | 3 => packedbf16_S2x256x512_S1x128x512_1_128_0

/-- Buffer `b`'s chunk `k`, as the view a copy moves. -/
abbrev chM (M : Memref sig .tc .vmem S2x256x512 .bf16) (k : Fin 8) : Memref sig .tc .vmem S64x512 .bf16 :=
  (M.slice (rC k) (fun _ => rfl)).squeeze S64x512 squeezes_S1x64x512_S64x512
/-- A chunk of a whole buffer consists of whole words. -/
theorem chM_words {M : Memref sig .tc .vmem S2x256x512 .bf16} (h : M.IsWhole) (k : Fin 8) : (chM M k).view.WordExact :=
  (h.wordExact_slice rfl _ (wordsC k)).reshape _ _

abbrev mX : Memref sig .tc .vmem S2x256x512 .f32 := Memref.whole cc0_scratch0
abbrev mWq : Memref sig .tc .vmem S512x256 .f32 := Memref.whole cc0_scratch1
abbrev mK : Memref sig .tc .vmem S2x256x256 .bf16 := Memref.whole cc0_scratch2
abbrev mV : Memref sig .tc .vmem S2x256x256 .bf16 := Memref.whole cc0_scratch3
abbrev mWo : Memref sig .tc .vmem S256x512 .f32 := Memref.whole cc0_scratch4
abbrev mAcc : Memref sig .tc .vmem S2x256x512 .f32 := Memref.whole cc0_scratch5
abbrev mSA : Memref sig .tc .vmem S2x256x512 .bf16 := Memref.whole cc0_scratch6
abbrev mRA : Memref sig .tc .vmem S2x256x512 .bf16 := Memref.whole cc0_scratch7
abbrev mSB : Memref sig .tc .vmem S2x256x512 .bf16 := Memref.whole cc0_scratch8
abbrev mRB : Memref sig .tc .vmem S2x256x512 .bf16 := Memref.whole cc0_scratch9

/-- The semaphores: five loads, one store, then sent/landed of the first and of the second exchange, by chunk. -/
def semL (j : Fin 5) : DmaSem sig := ⟨j.val, by have h := j.isLt; show _ < 38; omega⟩
def semO : DmaSem sig := ⟨5, by decide⟩
def semSA (k : Fin 8) : DmaSem sig := ⟨6 + k.val, by have h := k.isLt; show _ < 38; omega⟩
def semRA (k : Fin 8) : DmaSem sig := ⟨14 + k.val, by have h := k.isLt; show _ < 38; omega⟩
def semSB (k : Fin 8) : DmaSem sig := ⟨22 + k.val, by have h := k.isLt; show _ < 38; omega⟩
def semRB (k : Fin 8) : DmaSem sig := ⟨30 + k.val, by have h := k.isLt; show _ < 38; omega⟩
def barS : Sem sig := sig.barrier 0 rfl

/-! ## The steps -/

def pId : PP F (Dev nD) := Prog.lift .deviceId
def pSig (d : Dev nD) : PP F PUnit := semSignalWord d barS 1#32
def pBar : PP F PUnit := semWaitWord barS 2#32
def pLd0 : PP F PUnit := Prog.lift (.enqueueDma (Memref.whole main_arg0) (.here mX) (.dma (semL 0)) (Memref.isWhole_whole _).wordExact (Memref.isWhole_whole _).wordExact ⟨Or.inl rfl, trivial⟩)
def pLw0 : PP F PUnit := Prog.lift (.waitDma2 (semL 0) (Memref.whole main_arg0) mX (Memref.isWhole_whole _).wordExact (Memref.isWhole_whole _).wordExact)
def pLd1 : PP F PUnit := Prog.lift (.enqueueDma (Memref.whole main_arg1) (.here mWq) (.dma (semL 1)) (Memref.isWhole_whole _).wordExact (Memref.isWhole_whole _).wordExact ⟨Or.inl rfl, trivial⟩)
def pLw1 : PP F PUnit := Prog.lift (.waitDma2 (semL 1) (Memref.whole main_arg1) mWq (Memref.isWhole_whole _).wordExact (Memref.isWhole_whole _).wordExact)
def pLd2 : PP F PUnit := Prog.lift (.enqueueDma (Memref.whole main_v11) (.here mK) (.dma (semL 2)) (Memref.isWhole_whole _).wordExact (Memref.isWhole_whole _).wordExact ⟨Or.inl rfl, trivial⟩)
def pLw2 : PP F PUnit := Prog.lift (.waitDma2 (semL 2) (Memref.whole main_v11) mK (Memref.isWhole_whole _).wordExact (Memref.isWhole_whole _).wordExact)
def pLd3 : PP F PUnit := Prog.lift (.enqueueDma (Memref.whole main_v18) (.here mV) (.dma (semL 3)) (Memref.isWhole_whole _).wordExact (Memref.isWhole_whole _).wordExact ⟨Or.inl rfl, trivial⟩)
def pLw3 : PP F PUnit := Prog.lift (.waitDma2 (semL 3) (Memref.whole main_v18) mV (Memref.isWhole_whole _).wordExact (Memref.isWhole_whole _).wordExact)
def pLd4 : PP F PUnit := Prog.lift (.enqueueDma (Memref.whole main_arg4) (.here mWo) (.dma (semL 4)) (Memref.isWhole_whole _).wordExact (Memref.isWhole_whole _).wordExact ⟨Or.inl rfl, trivial⟩)
def pLw4 : PP F PUnit := Prog.lift (.waitDma2 (semL 4) (Memref.whole main_arg4) mWo (Memref.isWhole_whole _).wordExact (Memref.isWhole_whole _).wordExact)
def rdWq : PP F (Vec F S512x256 .f32) :=
  Prog.lift (.load mWq (Rect.unit (s := S512x256) ![0, 0] S512x256.size inb_S512x256_S512x256_0_0).toLoadRect (View.loadsAt_vmem h_S512x256))
def rdWo : PP F (Vec F S256x512 .f32) :=
  Prog.lift (.load mWo (Rect.unit (s := S256x512) ![0, 0] S256x512.size inb_S256x512_S256x512_0_0).toLoadRect (View.loadsAt_vmem h_S256x512))
/-- A batch lies inside the input. -/
theorem inbX (b : Fin 2) : ∀ a, (![b.val, 0, 0] : Fin 3 → ℕ) a + S1x256x512.size a ≤ S2x256x512.size a := by revert b; decide
/-- A batch lies inside the keys. -/
theorem inbK (b : Fin 2) : ∀ a, (![b.val, 0, 0] : Fin 3 → ℕ) a + S1x256x256.size a ≤ S2x256x256.size a := by revert b; decide
def rdX (b : Fin 2) : PP F (Vec F S1x256x512 .f32) :=
  Prog.lift (.load mX (Rect.unit (s := S2x256x512) ![b.val, 0, 0] S1x256x512.size (inbX b)).toLoadRect (View.loadsAt_vmem h_S1x256x512))
def rdK (b : Fin 2) : PP F (Vec F S1x256x256 .bf16) :=
  Prog.lift (.load mK (Rect.unit (s := S2x256x256) ![b.val, 0, 0] S1x256x256.size (inbK b)).toLoadRect (View.loadsAt_vmem h_S1x256x256))
def rdV (b : Fin 2) : PP F (Vec F S1x256x256 .bf16) :=
  Prog.lift (.load mV (Rect.unit (s := S2x256x256) ![b.val, 0, 0] S1x256x256.size (inbK b)).toLoadRect (View.loadsAt_vmem h_S1x256x256))
def rdAccH (h : Fin 4) : PP F (Vec F S1x128x512 .f32) := Prog.lift (.load mAcc (rH h).toLoadRect (View.loadsAt_vmem h_S1x128x512))
def rdSAH (h : Fin 4) : PP F (Vec F S1x128x512 .bf16) := Prog.lift (.load mSA (rH h).toLoadRect (View.loadsAt_vmem h_S1x128x512))
def stAccH (h : Fin 4) (w : FVec F S1x128x512 .f32) : PP F PUnit :=
  Prog.lift (.store mAcc (rH h) w Finset.univ (View.stores_vmem_bits_univ h_S1x128x512 rfl) (.inl rfl))
def stSAH (h : Fin 4) (w : FVec F S1x128x512 .bf16) : PP F PUnit :=
  Prog.lift (.store mSA (rH h) w Finset.univ
    (View.stores_vmem h_S1x128x512 ((Memref.isWhole_whole _).storeExact_slice rfl _ (packedH h)) (fun _ => rfl)) (.inl rfl))
def rdAcc (k : Fin 8) : PP F (Vec F S1x64x512 .f32) := Prog.lift (.load mAcc (rC k).toLoadRect (View.loadsAt_vmem h_S1x64x512))
def rdRA (k : Fin 8) : PP F (Vec F S1x64x512 .bf16) := Prog.lift (.load mRA (rC k).toLoadRect (View.loadsAt_vmem h_S1x64x512))
def rdSB (k : Fin 8) : PP F (Vec F S1x64x512 .bf16) := Prog.lift (.load mSB (rC k).toLoadRect (View.loadsAt_vmem h_S1x64x512))
def rdRB (k : Fin 8) : PP F (Vec F S1x64x512 .bf16) := Prog.lift (.load mRB (rC k).toLoadRect (View.loadsAt_vmem h_S1x64x512))
def stAcc (k : Fin 8) (w : FVec F S1x64x512 .f32) : PP F PUnit :=
  Prog.lift (.store mAcc (rC k) w Finset.univ (View.stores_vmem_bits_univ h_S1x64x512 rfl) (.inl rfl))
def stSB (k : Fin 8) (w : FVec F S1x64x512 .bf16) : PP F PUnit :=
  Prog.lift (.store mSB (rC k) w Finset.univ
    (View.stores_vmem h_S1x64x512 ((Memref.isWhole_whole _).storeExact_slice rfl _ (packedC k)) (fun _ => rfl)) (.inl rfl))
def sendA (d : Dev nD) (k : Fin 8) : PP F PUnit :=
  Prog.lift (.enqueueDma (chM mSA k) (.remote (Dev.tc d) (chM mRA k) (.dma (semSA k))) (.dma (semRA k)) (chM_words (Memref.isWhole_whole _) k)
    (chM_words (Memref.isWhole_whole _) k) ⟨⟨rfl, Or.inl rfl⟩, trivial⟩)
def sendB (d : Dev nD) (k : Fin 8) : PP F PUnit :=
  Prog.lift (.enqueueDma (chM mSB k) (.remote (Dev.tc d) (chM mRB k) (.dma (semSB k))) (.dma (semRB k)) (chM_words (Memref.isWhole_whole _) k)
    (chM_words (Memref.isWhole_whole _) k) ⟨⟨rfl, Or.inl rfl⟩, trivial⟩)
def wtSA (k : Fin 8) : PP F PUnit := Prog.lift (.waitDma2 (semSA k) (chM mRA k) (chM mSA k) (chM_words (Memref.isWhole_whole _) k) (chM_words (Memref.isWhole_whole _) k))
def wtRA (k : Fin 8) : PP F PUnit := Prog.lift (.waitDma2 (semRA k) (chM mSA k) (chM mRA k) (chM_words (Memref.isWhole_whole _) k) (chM_words (Memref.isWhole_whole _) k))
def wtSB (k : Fin 8) : PP F PUnit := Prog.lift (.waitDma2 (semSB k) (chM mRB k) (chM mSB k) (chM_words (Memref.isWhole_whole _) k) (chM_words (Memref.isWhole_whole _) k))
def wtRB (k : Fin 8) : PP F PUnit := Prog.lift (.waitDma2 (semRB k) (chM mSB k) (chM mRB k) (chM_words (Memref.isWhole_whole _) k) (chM_words (Memref.isWhole_whole _) k))
def pOut : PP F PUnit := Prog.lift (.enqueueDma mAcc (.here (Memref.whole main_v19)) (.dma semO) (Memref.isWhole_whole _).wordExact (Memref.isWhole_whole _).wordExact ⟨Or.inl rfl, trivial⟩)
def pOw : PP F PUnit := Prog.lift (.waitDma2 semO mAcc (Memref.whole main_v19) (Memref.isWhole_whole _).wordExact (Memref.isWhole_whole _).wordExact)

/-! ## The printed parts in these steps -/
def P1  : PP F ((Σ' (d0 : Dev nD) (v13 : BitVec 32) (v24 : BitVec 32) (v25 : BitVec 32), BitVec 32)) := do
  let d0 : Dev nD ← pId
  let v0 : BitVec 32 := Dev.word d0
  let v1 : BitVec 32 := Scalar.divsi v0 1#32
  let v2 : BitVec 32 := Scalar.remsi v1 4#32
  let v3 : BitVec 32 := Scalar.subi v2 1#32
  let v4 : BitVec 1 := Scalar.cmpi .eq 4#32 0#32
  let v5 : BitVec 32 := Scalar.select v4 1#32 4#32
  let v6 : BitVec 32 := Scalar.remsi v3 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  let v14 : BitVec 32 := Scalar.addi v2 1#32
  let v15 : BitVec 1 := Scalar.cmpi .eq 4#32 0#32
  let v16 : BitVec 32 := Scalar.select v15 1#32 4#32
  let v17 : BitVec 32 := Scalar.remsi v14 v16
  let v18 : BitVec 1 := Scalar.cmpi .ne v17 0#32
  let v19 : BitVec 1 := Scalar.cmpi .slt v17 0#32
  let v20 : BitVec 1 := Scalar.cmpi .slt v16 0#32
  let v21 : BitVec 1 := Scalar.xori v19 v20
  let v22 : BitVec 1 := Scalar.andi v21 v18
  let v23 : BitVec 32 := Scalar.addi v17 v16
  let v24 : BitVec 32 := Scalar.select v22 v23 v17
  let v25 : BitVec 32 := Scalar.xori v2 1#32
  let v26 : BitVec 32 := Scalar.subi 3#32 v2
  pLd0
  pLd1
  pLd2
  pure ⟨d0, v13, v24, v25, v26⟩
/-- Part 1 of the body, as named steps. -/
theorem part1_eq  : k0_part1 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15  = P1  := rfl
def P2 (d0 : Dev nD) (v13 : BitVec 32) (v24 : BitVec 32) : PP F ((Σ' (v55 : FVec F S512x256 .bf16) (v57 : FVec F S256x512 .bf16) (v60 : FVec F S256x512 .bf16), FVec F S256x256 .f32)) := do
  pLd3
  pLd4
  pSig (⟨k0_dev1 d0, k0_dev1_lt d0⟩ : Dev nD)
  pSig (⟨k0_dev2 d0, k0_dev2_lt d0⟩ : Dev nD)
  pBar
  pLw0
  pLw1
  pLw2
  pLw3
  pLw4
  let v52 : Vec F S512x256 .f32 ← rdWq
  let v56 : Vec F S256x512 .f32 ← rdWo
  let v58 : Vec F S1x256x512 .f32 ← rdX 0
  have cst_36 : FVec F S256x256 .f32 := constant S256x256 .f32 0x00000000#32
  pure ⟨k0_pay2 v52, k0_pay3 v56, k0_pay4 v58, cst_36⟩
/-- Part 2 of the body, as named steps. -/
theorem part2_eq (d0 : Dev nD) (v13 : BitVec 32) (v24 : BitVec 32) : k0_part2 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v13 v24 = P2 d0 v13 v24 := rfl
def P3 (v55 : FVec F S512x256 .bf16) (v60 : FVec F S256x512 .bf16) (cst_36 : FVec F S256x256 .f32) : PP F ((Σ' (v61 : FVec F S256x256 .f32) (v105 : FVec F S256x64 .bf16), FVec F S256x64 .f32)) := do
  let v64 : Vec F S1x256x256 .bf16 ← rdK 0
  let v67 : Vec F S1x256x256 .bf16 ← rdV 0
  pure ⟨k0_pay5 v55 v60 cst_36, k0_pay6 v55 v60 cst_36 v64 v67, k0_pay7 v55 v60 cst_36⟩
/-- Part 3 of the body, as named steps. -/
theorem part3_eq (v55 : FVec F S512x256 .bf16) (v60 : FVec F S256x512 .bf16) (cst_36 : FVec F S256x256 .f32) : k0_part3 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v55 v60 cst_36 = P3 v55 v60 cst_36 := rfl
def P4 (v61 : FVec F S256x256 .f32) (v106 : FVec F S256x64 .f32) : PP F ((Σ' (v149 : FVec F S256x64 .bf16), FVec F S256x64 .bf16)) := do
  let v108 : Vec F S1x256x256 .bf16 ← rdK 0
  let v111 : Vec F S1x256x256 .bf16 ← rdV 0
  pure ⟨k0_pay8 v106 v108 v111, k0_pay9 v61⟩
/-- Part 4 of the body, as named steps. -/
theorem part4_eq (v61 : FVec F S256x256 .f32) (v106 : FVec F S256x64 .f32) : k0_part4 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v61 v106 = P4 v61 v106 := rfl
def P5 (v61 : FVec F S256x256 .f32) (v151 : FVec F S256x64 .bf16) : PP F ((Σ' (v193 : FVec F S256x64 .bf16), FVec F S256x64 .bf16)) := do
  let v152 : Vec F S1x256x256 .bf16 ← rdK 0
  let v155 : Vec F S1x256x256 .bf16 ← rdV 0
  pure ⟨k0_pay10 v151 v152 v155, k0_pay11 v61⟩
/-- Part 5 of the body, as named steps. -/
theorem part5_eq (v61 : FVec F S256x256 .f32) (v151 : FVec F S256x64 .bf16) : k0_part5 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v61 v151 = P5 v61 v151 := rfl
def P6 (v57 : FVec F S256x512 .bf16) (v105 : FVec F S256x64 .bf16) (v149 : FVec F S256x64 .bf16) (v193 : FVec F S256x64 .bf16) (v195 : FVec F S256x64 .bf16) : PP F ((Σ' (v238 : FVec F S256x256 .bf16), FVec F S128x512 .f32)) := do
  let v196 : Vec F S1x256x256 .bf16 ← rdK 0
  let v199 : Vec F S1x256x256 .bf16 ← rdV 0
  pure ⟨k0_pay12 v105 v149 v193 v195 v196 v199, k0_pay13 v57 v105 v149 v193 v195 v196 v199⟩
/-- Part 6 of the body, as named steps. -/
theorem part6_eq (v57 : FVec F S256x512 .bf16) (v105 : FVec F S256x64 .bf16) (v149 : FVec F S256x64 .bf16) (v193 : FVec F S256x64 .bf16) (v195 : FVec F S256x64 .bf16) : k0_part6 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v57 v105 v149 v193 v195 = P6 v57 v105 v149 v193 v195 := rfl
def P7 (d0 : Dev nD) (v25 : BitVec 32) (v26 : BitVec 32) (v238 : FVec F S256x256 .bf16) (v240 : FVec F S128x512 .f32) : PP F ((Σ' (v268 : FVec F S128x256 .bf16), FVec F S128x512 .f32)) := do
  let v241 : Vec F S1x128x512 .f32 ← rdAccH 0
  stAccH 0 (k0_pay14 v240)
  let v245 : Vec F S1x128x512 .bf16 ← rdSAH 0
  stSAH 0 (k0_pay15 v240)
  sendA (⟨k0_dev3 d0, k0_dev3_lt d0⟩ : Dev nD) 0
  sendA (⟨k0_dev4 d0, k0_dev4_lt d0⟩ : Dev nD) 1
  have cst_123 : FVec F S128x512 .f32 := constant S128x512 .f32 0x00000000#32
  pure ⟨k0_pay16 v238, cst_123⟩
/-- Part 7 of the body, as named steps. -/
theorem part7_eq (d0 : Dev nD) (v25 : BitVec 32) (v26 : BitVec 32) (v238 : FVec F S256x256 .bf16) (v240 : FVec F S128x512 .f32) : k0_part7 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 v26 v238 v240 = P7 d0 v25 v26 v238 v240 := rfl
def P8 (d0 : Dev nD) (v25 : BitVec 32) (v26 : BitVec 32) (v57 : FVec F S256x512 .bf16) (v268 : FVec F S128x256 .bf16) (cst_123 : FVec F S128x512 .f32) : PP F ((PUnit)) := do
  let v270 : Vec F S1x128x512 .f32 ← rdAccH 1
  stAccH 1 (k0_pay18 v57 v268 cst_123)
  let v274 : Vec F S1x128x512 .bf16 ← rdSAH 1
  stSAH 1 (k0_pay19 v57 v268 cst_123)
  sendA (⟨k0_dev5 d0, k0_dev5_lt d0⟩ : Dev nD) 2
  pure ⟨⟩
/-- Part 8 of the body, as named steps. -/
theorem part8_eq (d0 : Dev nD) (v25 : BitVec 32) (v26 : BitVec 32) (v57 : FVec F S256x512 .bf16) (v268 : FVec F S128x256 .bf16) (cst_123 : FVec F S128x512 .f32) : k0_part8 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 v26 v57 v268 cst_123 = P8 d0 v25 v26 v57 v268 cst_123 := rfl
def P9 (d0 : Dev nD) (v55 : FVec F S512x256 .bf16) : PP F ((Σ' (v300 : FVec F S256x256 .f32) (v321 : FVec F S128x64 .f32) (v330 : FVec F S128x64 .bf16) (v332 : FVec F S128x128 .f32), FVec F S128x128 .f32)) := do
  sendA (⟨k0_dev6 d0, k0_dev6_lt d0⟩ : Dev nD) 3
  let v297 : Vec F S1x256x512 .f32 ← rdX 1
  let v303 : Vec F S1x256x256 .bf16 ← rdK 1
  let v306 : Vec F S1x256x256 .bf16 ← rdV 1
  pure ⟨k0_pay20 v55 v297, k0_pay24 v55 v297 v303 v306, k0_pay25 v306, k0_pay26 v55 v297 v303, k0_pay27 v55 v297 v303⟩
/-- Part 9 of the body, as named steps. -/
theorem part9_eq (d0 : Dev nD) (v55 : FVec F S512x256 .bf16) : k0_part9 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v55 = P9 d0 v55 := rfl
def P10 (v300 : FVec F S256x256 .f32) (v321 : FVec F S128x64 .f32) (v330 : FVec F S128x64 .bf16) (v332 : FVec F S128x128 .f32) (v337 : FVec F S128x128 .f32) : PP F ((Σ' (v344 : FVec F S256x64 .bf16) (v365 : FVec F S128x64 .f32) (v374 : FVec F S128x64 .bf16), FVec F S128x128 .bf16)) := do
  let v347 : Vec F S1x256x256 .bf16 ← rdK 1
  let v350 : Vec F S1x256x256 .bf16 ← rdV 1
  pure ⟨k0_pay28 v321 v330 v332 v337, k0_pay32 v300 v347 v350, k0_pay33 v350, k0_pay34 v300 v347⟩
/-- Part 10 of the body, as named steps. -/
theorem part10_eq (v300 : FVec F S256x256 .f32) (v321 : FVec F S128x64 .f32) (v330 : FVec F S128x64 .bf16) (v332 : FVec F S128x128 .f32) (v337 : FVec F S128x128 .f32) : k0_part10 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v300 v321 v330 v332 v337 = P10 v300 v321 v330 v332 v337 := rfl
def P11 (v300 : FVec F S256x256 .f32) (v365 : FVec F S128x64 .f32) (v374 : FVec F S128x64 .bf16) (v383 : FVec F S128x128 .bf16) : PP F ((Σ' (v388 : FVec F S256x64 .bf16) (v409 : FVec F S128x64 .f32), FVec F S128x64 .f32)) := do
  let v391 : Vec F S1x256x256 .bf16 ← rdK 1
  let v394 : Vec F S1x256x256 .bf16 ← rdV 1
  pure ⟨k0_pay35 v365 v374 v383, k0_pay39 v300 v391 v394, k0_pay40 v300 v391 v394⟩
/-- Part 11 of the body, as named steps. -/
theorem part11_eq (v300 : FVec F S256x256 .f32) (v365 : FVec F S128x64 .f32) (v374 : FVec F S128x64 .bf16) (v383 : FVec F S128x128 .bf16) : k0_part11 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v300 v365 v374 v383 = P11 v300 v365 v374 v383 := rfl
def P12 (v300 : FVec F S256x256 .f32) (v409 : FVec F S128x64 .f32) (v428 : FVec F S128x64 .f32) : PP F ((Σ' (v432 : FVec F S256x64 .bf16) (v453 : FVec F S128x64 .f32) (v473 : FVec F S64x64 .f32), FVec F S64x64 .f32)) := do
  let v435 : Vec F S1x256x256 .bf16 ← rdK 1
  let v438 : Vec F S1x256x256 .bf16 ← rdV 1
  pure ⟨k0_pay41 v409 v428, k0_pay45 v300 v435 v438, k0_pay47 v300 v435 v438, k0_pay48 v300 v435 v438⟩
/-- Part 12 of the body, as named steps. -/
theorem part12_eq (v300 : FVec F S256x256 .f32) (v409 : FVec F S128x64 .f32) (v428 : FVec F S128x64 .f32) : k0_part12 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v300 v409 v428 = P12 v300 v409 v428 := rfl
def P13 (d0 : Dev nD) (v25 : BitVec 32) (v26 : BitVec 32) (v57 : FVec F S256x512 .bf16) (v344 : FVec F S256x64 .bf16) (v388 : FVec F S256x64 .bf16) (v432 : FVec F S256x64 .bf16) (v453 : FVec F S128x64 .f32) (v473 : FVec F S64x64 .f32) (v474 : FVec F S64x64 .f32) : PP F ((FVec F S256x256 .bf16)) := do
  let v480 : Vec F S1x128x512 .f32 ← rdAccH 2
  stAccH 2 (k0_pay51 v57 v344 v388 v432 v453 v473 v474)
  let v484 : Vec F S1x128x512 .bf16 ← rdSAH 2
  stSAH 2 (k0_pay52 v57 v344 v388 v432 v453 v473 v474)
  sendA (⟨k0_dev7 d0, k0_dev7_lt d0⟩ : Dev nD) 4
  pure (k0_pay49 v344 v388 v432 v453 v473 v474)
/-- Part 13 of the body, as named steps. -/
theorem part13_eq (d0 : Dev nD) (v25 : BitVec 32) (v26 : BitVec 32) (v57 : FVec F S256x512 .bf16) (v344 : FVec F S256x64 .bf16) (v388 : FVec F S256x64 .bf16) (v432 : FVec F S256x64 .bf16) (v453 : FVec F S128x64 .f32) (v473 : FVec F S64x64 .f32) (v474 : FVec F S64x64 .f32) : k0_part13 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 v26 v57 v344 v388 v432 v453 v473 v474 = P13 d0 v25 v26 v57 v344 v388 v432 v453 v473 v474 := rfl
def P14 (d0 : Dev nD) (v25 : BitVec 32) (v26 : BitVec 32) (v57 : FVec F S256x512 .bf16) (v477 : FVec F S256x256 .bf16) : PP F ((PUnit)) := do
  sendA (⟨k0_dev8 d0, k0_dev8_lt d0⟩ : Dev nD) 5
  let v509 : Vec F S1x128x512 .f32 ← rdAccH 3
  stAccH 3 (k0_pay54 v57 v477)
  let v513 : Vec F S1x128x512 .bf16 ← rdSAH 3
  stSAH 3 (k0_pay55 v57 v477)
  sendA (⟨k0_dev9 d0, k0_dev9_lt d0⟩ : Dev nD) 6
  pure ⟨⟩
/-- Part 14 of the body, as named steps. -/
theorem part14_eq (d0 : Dev nD) (v25 : BitVec 32) (v26 : BitVec 32) (v57 : FVec F S256x512 .bf16) (v477 : FVec F S256x256 .bf16) : k0_part14 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 v26 v57 v477 = P14 d0 v25 v26 v57 v477 := rfl
def P15 (d0 : Dev nD) (v25 : BitVec 32) : PP F ((Σ' (v551 : FVec F S64x512 .f32), FVec F S64x512 .bf16)) := do
  sendA (⟨k0_dev10 d0, k0_dev10_lt d0⟩ : Dev nD) 7
  wtSA 0
  wtRA 0
  let v550 : Vec F S1x64x512 .f32 ← rdAcc 0
  let v552 : Vec F S1x64x512 .bf16 ← rdRA 0
  pure ⟨k0_pay56 v550, k0_pay57 v552⟩
/-- Part 15 of the body, as named steps. -/
theorem part15_eq (d0 : Dev nD) (v25 : BitVec 32) : k0_part15 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 = P15 d0 v25 := rfl
def P16 (d0 : Dev nD) (v26 : BitVec 32) (v551 : FVec F S64x512 .f32) (v553 : FVec F S64x512 .bf16) : PP F ((PUnit)) := do
  let v556 : Vec F S1x64x512 .f32 ← rdAcc 0
  stAcc 0 (k0_pay59 v551 v553)
  let v560 : Vec F S1x64x512 .bf16 ← rdSB 0
  stSB 0 (k0_pay60 v551 v553)
  sendB (⟨k0_dev11 d0, k0_dev11_lt d0⟩ : Dev nD) 0
  wtSA 1
  pure ⟨⟩
/-- Part 16 of the body, as named steps. -/
theorem part16_eq (d0 : Dev nD) (v26 : BitVec 32) (v551 : FVec F S64x512 .f32) (v553 : FVec F S64x512 .bf16) : k0_part16 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v26 v551 v553 = P16 d0 v26 v551 v553 := rfl
def P17 (v25 : BitVec 32) (v26 : BitVec 32) : PP F ((PUnit)) := do
  wtRA 1
  let v587 : Vec F S1x64x512 .f32 ← rdAcc 1
  let v589 : Vec F S1x64x512 .bf16 ← rdRA 1
  let v593 : Vec F S1x64x512 .f32 ← rdAcc 1
  stAcc 1 (k0_pay62 v587 v589)
  let v597 : Vec F S1x64x512 .bf16 ← rdSB 1
  stSB 1 (k0_pay63 v587 v589)
  pure ⟨⟩
/-- Part 17 of the body, as named steps. -/
theorem part17_eq (v25 : BitVec 32) (v26 : BitVec 32) : k0_part17 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 v26 = P17 v25 v26 := rfl
def P18 (d0 : Dev nD) (v25 : BitVec 32) : PP F ((FVec F S64x512 .f32)) := do
  sendB (⟨k0_dev12 d0, k0_dev12_lt d0⟩ : Dev nD) 1
  wtSA 2
  wtRA 2
  let v624 : Vec F S1x64x512 .f32 ← rdAcc 2
  let v626 : Vec F S1x64x512 .bf16 ← rdRA 2
  pure (k0_pay64 v624 v626)
/-- Part 18 of the body, as named steps. -/
theorem part18_eq (d0 : Dev nD) (v25 : BitVec 32) : k0_part18 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 = P18 d0 v25 := rfl
def P19 (d0 : Dev nD) (v26 : BitVec 32) (v629 : FVec F S64x512 .f32) : PP F ((PUnit)) := do
  let v630 : Vec F S1x64x512 .f32 ← rdAcc 2
  stAcc 2 (k0_pay65 v629)
  let v634 : Vec F S1x64x512 .bf16 ← rdSB 2
  stSB 2 (k0_pay66 v629)
  sendB (⟨k0_dev13 d0, k0_dev13_lt d0⟩ : Dev nD) 2
  wtSA 3
  pure ⟨⟩
/-- Part 19 of the body, as named steps. -/
theorem part19_eq (d0 : Dev nD) (v26 : BitVec 32) (v629 : FVec F S64x512 .f32) : k0_part19 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v26 v629 = P19 d0 v26 v629 := rfl
def P20 (v25 : BitVec 32) (v26 : BitVec 32) : PP F ((PUnit)) := do
  wtRA 3
  let v661 : Vec F S1x64x512 .f32 ← rdAcc 3
  let v663 : Vec F S1x64x512 .bf16 ← rdRA 3
  let v667 : Vec F S1x64x512 .f32 ← rdAcc 3
  stAcc 3 (k0_pay68 v661 v663)
  let v671 : Vec F S1x64x512 .bf16 ← rdSB 3
  stSB 3 (k0_pay69 v661 v663)
  pure ⟨⟩
/-- Part 20 of the body, as named steps. -/
theorem part20_eq (v25 : BitVec 32) (v26 : BitVec 32) : k0_part20 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 v26 = P20 v25 v26 := rfl
def P21 (d0 : Dev nD) (v26 : BitVec 32) : PP F ((FVec F S64x512 .f32)) := do
  sendB (⟨k0_dev14 d0, k0_dev14_lt d0⟩ : Dev nD) 3
  wtSA 4
  wtRA 4
  let v698 : Vec F S1x64x512 .f32 ← rdAcc 4
  let v700 : Vec F S1x64x512 .bf16 ← rdRA 4
  pure (k0_pay70 v698 v700)
/-- Part 21 of the body, as named steps. -/
theorem part21_eq (d0 : Dev nD) (v26 : BitVec 32) : k0_part21 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v26 = P21 d0 v26 := rfl
def P22 (d0 : Dev nD) (v25 : BitVec 32) (v703 : FVec F S64x512 .f32) : PP F ((PUnit)) := do
  let v704 : Vec F S1x64x512 .f32 ← rdAcc 4
  stAcc 4 (k0_pay71 v703)
  let v708 : Vec F S1x64x512 .bf16 ← rdSB 4
  stSB 4 (k0_pay72 v703)
  sendB (⟨k0_dev15 d0, k0_dev15_lt d0⟩ : Dev nD) 4
  wtSA 5
  pure ⟨⟩
/-- Part 22 of the body, as named steps. -/
theorem part22_eq (d0 : Dev nD) (v25 : BitVec 32) (v703 : FVec F S64x512 .f32) : k0_part22 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 v703 = P22 d0 v25 v703 := rfl
def P23 (v25 : BitVec 32) (v26 : BitVec 32) : PP F ((PUnit)) := do
  wtRA 5
  let v735 : Vec F S1x64x512 .f32 ← rdAcc 5
  let v737 : Vec F S1x64x512 .bf16 ← rdRA 5
  let v741 : Vec F S1x64x512 .f32 ← rdAcc 5
  stAcc 5 (k0_pay74 v735 v737)
  let v745 : Vec F S1x64x512 .bf16 ← rdSB 5
  stSB 5 (k0_pay75 v735 v737)
  pure ⟨⟩
/-- Part 23 of the body, as named steps. -/
theorem part23_eq (v25 : BitVec 32) (v26 : BitVec 32) : k0_part23 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 v26 = P23 v25 v26 := rfl
def P24 (d0 : Dev nD) (v26 : BitVec 32) : PP F ((Σ' (v777 : FVec F S64x512 .f32), Vec F S1x64x512 .f32)) := do
  sendB (⟨k0_dev16 d0, k0_dev16_lt d0⟩ : Dev nD) 5
  wtSA 6
  wtRA 6
  let v772 : Vec F S1x64x512 .f32 ← rdAcc 6
  let v774 : Vec F S1x64x512 .bf16 ← rdRA 6
  let v778 : Vec F S1x64x512 .f32 ← rdAcc 6
  pure ⟨k0_pay76 v772 v774, v778⟩
/-- Part 24 of the body, as named steps. -/
theorem part24_eq (d0 : Dev nD) (v26 : BitVec 32) : k0_part24 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v26 = P24 d0 v26 := rfl
def P25 (d0 : Dev nD) (v25 : BitVec 32) (v777 : FVec F S64x512 .f32) (v778 : Vec F S1x64x512 .f32) : PP F ((BitVec 32)) := do
  stAcc 6 (k0_pay77 v777)
  let v782 : Vec F S1x64x512 .bf16 ← rdSB 6
  stSB 6 (k0_pay78 v777)
  sendB (⟨k0_dev17 d0, k0_dev17_lt d0⟩ : Dev nD) 6
  wtSA 7
  let v801 : BitVec 32 := Scalar.muli v25 1#32
  pure v801
/-- Part 25 of the body, as named steps. -/
theorem part25_eq (d0 : Dev nD) (v25 : BitVec 32) (v777 : FVec F S64x512 .f32) (v778 : Vec F S1x64x512 .f32) : k0_part25 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v25 v777 v778 = P25 d0 v25 v777 v778 := rfl
def P26 (v26 : BitVec 32) (v801 : BitVec 32) : PP F ((PUnit)) := do
  wtRA 7
  let v809 : Vec F S1x64x512 .f32 ← rdAcc 7
  let v811 : Vec F S1x64x512 .bf16 ← rdRA 7
  let v815 : Vec F S1x64x512 .f32 ← rdAcc 7
  stAcc 7 (k0_pay80 v809 v811)
  let v819 : Vec F S1x64x512 .bf16 ← rdSB 7
  stSB 7 (k0_pay81 v809 v811)
  pure ⟨⟩
/-- Part 26 of the body, as named steps. -/
theorem part26_eq (v26 : BitVec 32) (v801 : BitVec 32) : k0_part26 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v26 v801 = P26 v26 v801 := rfl
def P27 (d0 : Dev nD) (v26 : BitVec 32) : PP F ((FVec F S1x64x512 .f32)) := do
  sendB (⟨k0_dev18 d0, k0_dev18_lt d0⟩ : Dev nD) 7
  wtSB 0
  wtRB 0
  let v846 : Vec F S1x64x512 .f32 ← rdAcc 0
  let v848 : Vec F S1x64x512 .bf16 ← rdRB 0
  let v852 : Vec F S1x64x512 .f32 ← rdAcc 0
  pure (k0_pay82 v846 v848)
/-- Part 27 of the body, as named steps. -/
theorem part27_eq (d0 : Dev nD) (v26 : BitVec 32) : k0_part27 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 d0 v26 = P27 d0 v26 := rfl
def P28 (v25 : BitVec 32) (v854 : FVec F S1x64x512 .f32) : PP F ((PUnit)) := do
  stAcc 0 v854
  wtSB 1
  wtRB 1
  let v869 : Vec F S1x64x512 .f32 ← rdAcc 1
  let v871 : Vec F S1x64x512 .bf16 ← rdRB 1
  let v875 : Vec F S1x64x512 .f32 ← rdAcc 1
  stAcc 1 (k0_pay83 v869 v871)
  pure ⟨⟩
/-- Part 28 of the body, as named steps. -/
theorem part28_eq (v25 : BitVec 32) (v854 : FVec F S1x64x512 .f32) : k0_part28 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 v854 = P28 v25 v854 := rfl
def P29 (v26 : BitVec 32) : PP F ((PUnit)) := do
  wtSB 2
  wtRB 2
  let v892 : Vec F S1x64x512 .f32 ← rdAcc 2
  let v894 : Vec F S1x64x512 .bf16 ← rdRB 2
  let v898 : Vec F S1x64x512 .f32 ← rdAcc 2
  stAcc 2 (k0_pay84 v892 v894)
  pure ⟨⟩
/-- Part 29 of the body, as named steps. -/
theorem part29_eq (v26 : BitVec 32) : k0_part29 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v26 = P29 v26 := rfl
def P30 (v25 : BitVec 32) : PP F ((PUnit)) := do
  wtSB 3
  wtRB 3
  let v915 : Vec F S1x64x512 .f32 ← rdAcc 3
  let v917 : Vec F S1x64x512 .bf16 ← rdRB 3
  let v921 : Vec F S1x64x512 .f32 ← rdAcc 3
  stAcc 3 (k0_pay85 v915 v917)
  pure ⟨⟩
/-- Part 30 of the body, as named steps. -/
theorem part30_eq (v25 : BitVec 32) : k0_part30 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 = P30 v25 := rfl
def P31 (v25 : BitVec 32) : PP F ((PUnit)) := do
  wtSB 4
  wtRB 4
  let v938 : Vec F S1x64x512 .f32 ← rdAcc 4
  let v940 : Vec F S1x64x512 .bf16 ← rdRB 4
  let v944 : Vec F S1x64x512 .f32 ← rdAcc 4
  stAcc 4 (k0_pay86 v938 v940)
  pure ⟨⟩
/-- Part 31 of the body, as named steps. -/
theorem part31_eq (v25 : BitVec 32) : k0_part31 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 = P31 v25 := rfl
def P32 (v26 : BitVec 32) : PP F ((PUnit)) := do
  wtSB 5
  wtRB 5
  let v961 : Vec F S1x64x512 .f32 ← rdAcc 5
  let v963 : Vec F S1x64x512 .bf16 ← rdRB 5
  let v967 : Vec F S1x64x512 .f32 ← rdAcc 5
  stAcc 5 (k0_pay87 v961 v963)
  pure ⟨⟩
/-- Part 32 of the body, as named steps. -/
theorem part32_eq (v26 : BitVec 32) : k0_part32 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v26 = P32 v26 := rfl
def P33 (v25 : BitVec 32) : PP F ((PUnit)) := do
  wtSB 6
  wtRB 6
  let v984 : Vec F S1x64x512 .f32 ← rdAcc 6
  let v986 : Vec F S1x64x512 .bf16 ← rdRB 6
  let v990 : Vec F S1x64x512 .f32 ← rdAcc 6
  stAcc 6 (k0_pay88 v984 v986)
  pure ⟨⟩
/-- Part 33 of the body, as named steps. -/
theorem part33_eq (v25 : BitVec 32) : k0_part33 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 v25 = P33 v25 := rfl
def P34  : PP F ((PUnit)) := do
  let ⟨d0, v13, v24, v25, v26⟩ : Σ' (d0 : Dev nD) (v13 : BitVec 32) (v24 : BitVec 32) (v25 : BitVec 32), BitVec 32 ← P1
  let ⟨v55, v57, v60, cst_36⟩ : Σ' (v55 : FVec F S512x256 .bf16) (v57 : FVec F S256x512 .bf16) (v60 : FVec F S256x512 .bf16), FVec F S256x256 .f32 ← P2 d0 v13 v24
  let ⟨v61, v105, v106⟩ : Σ' (v61 : FVec F S256x256 .f32) (v105 : FVec F S256x64 .bf16), FVec F S256x64 .f32 ← P3 v55 v60 cst_36
  let ⟨v149, v151⟩ : Σ' (v149 : FVec F S256x64 .bf16), FVec F S256x64 .bf16 ← P4 v61 v106
  let ⟨v193, v195⟩ : Σ' (v193 : FVec F S256x64 .bf16), FVec F S256x64 .bf16 ← P5 v61 v151
  let ⟨v238, v240⟩ : Σ' (v238 : FVec F S256x256 .bf16), FVec F S128x512 .f32 ← P6 v57 v105 v149 v193 v195
  let ⟨v268, cst_123⟩ : Σ' (v268 : FVec F S128x256 .bf16), FVec F S128x512 .f32 ← P7 d0 v25 v26 v238 v240
  P8 d0 v25 v26 v57 v268 cst_123
  let ⟨v300, v321, v330, v332, v337⟩ : Σ' (v300 : FVec F S256x256 .f32) (v321 : FVec F S128x64 .f32) (v330 : FVec F S128x64 .bf16) (v332 : FVec F S128x128 .f32), FVec F S128x128 .f32 ← P9 d0 v55
  let ⟨v344, v365, v374, v383⟩ : Σ' (v344 : FVec F S256x64 .bf16) (v365 : FVec F S128x64 .f32) (v374 : FVec F S128x64 .bf16), FVec F S128x128 .bf16 ← P10 v300 v321 v330 v332 v337
  let ⟨v388, v409, v428⟩ : Σ' (v388 : FVec F S256x64 .bf16) (v409 : FVec F S128x64 .f32), FVec F S128x64 .f32 ← P11 v300 v365 v374 v383
  let ⟨v432, v453, v473, v474⟩ : Σ' (v432 : FVec F S256x64 .bf16) (v453 : FVec F S128x64 .f32) (v473 : FVec F S64x64 .f32), FVec F S64x64 .f32 ← P12 v300 v409 v428
  let v477 : FVec F S256x256 .bf16 ← P13 d0 v25 v26 v57 v344 v388 v432 v453 v473 v474
  P14 d0 v25 v26 v57 v477
  let ⟨v551, v553⟩ : Σ' (v551 : FVec F S64x512 .f32), FVec F S64x512 .bf16 ← P15 d0 v25
  P16 d0 v26 v551 v553
  P17 v25 v26
  let v629 : FVec F S64x512 .f32 ← P18 d0 v25
  P19 d0 v26 v629
  P20 v25 v26
  let v703 : FVec F S64x512 .f32 ← P21 d0 v26
  P22 d0 v25 v703
  P23 v25 v26
  let ⟨v777, v778⟩ : Σ' (v777 : FVec F S64x512 .f32), Vec F S1x64x512 .f32 ← P24 d0 v26
  let v801 : BitVec 32 ← P25 d0 v25 v777 v778
  P26 v26 v801
  let v854 : FVec F S1x64x512 .f32 ← P27 d0 v26
  P28 v25 v854
  P29 v26
  P30 v25
  P31 v25
  P32 v26
  P33 v25
  wtSB 7
  pure ⟨⟩
/-- Part 34 of the body, as named steps. -/
theorem part34_eq : k0_part34 (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 = P34 := by
  rw [k0_part34_eq_skeleton]; unfold k0_part34_skel P34; simp only [part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq]; rfl
def Pbody : PP F (PUnit) := do
  P34
  wtRB 7
  let v1007 : Vec F S1x64x512 .f32 ← rdAcc 7
  let v1009 : Vec F S1x64x512 .bf16 ← rdRB 7
  let v1013 : Vec F S1x64x512 .f32 ← rdAcc 7
  stAcc 7 (k0_pay1 v1007 v1009)
  pOut
  pOw
  pure ⟨⟩
/-- The body is the chain of its named steps. -/
theorem body_eq : cc0_body (F := F) (Memref.whole main_arg0) (Memref.isWhole_whole _) (Memref.whole main_arg1) (Memref.isWhole_whole _) (Memref.whole main_v11) (Memref.isWhole_whole _) (Memref.whole main_v18) (Memref.isWhole_whole _) (Memref.whole main_arg4) (Memref.isWhole_whole _) (Memref.whole main_v19) (Memref.isWhole_whole _) mX (Memref.isWhole_whole _) mWq (Memref.isWhole_whole _) mK (Memref.isWhole_whole _) mV (Memref.isWhole_whole _) mWo (Memref.isWhole_whole _) mAcc (Memref.isWhole_whole _) mSA (Memref.isWhole_whole _) mRA (Memref.isWhole_whole _) mSB (Memref.isWhole_whole _) mRB (Memref.isWhole_whole _) cc0_scratch10 cc0_scratch11 cc0_scratch12 cc0_scratch13 cc0_scratch14 cc0_scratch15 = Pbody := by
  rw [cc0_body_eq_skeleton]; unfold cc0_body_skel Pbody; simp only [part34_eq]; rfl

end Cert.KernelIdeal.Attn
end
-- ==== Proof.Body.lean ====
module

public import proofs.«01_k».proof.Proof.Ops

/-! The body regrouped: loads, entry barrier, two batches of two tiles, eight first exchanges, eight second exchanges, the copy out. -/

@[expose] public section

set_option maxRecDepth 65536

noncomputable section

namespace Cert.KernelIdeal.Attn

open Idealize.ShloMosaic Idealize.ShloMosaic.TcCoe Idealize.SL.Sem
open Cert.KernelIdeal Cert.KernelIdeal.Gen

variable {F : FTy → Type} [FloatOps F]

/-- The sum a chunk's exchange forms, and the same narrowed. -/
def sumP (a : Vec F S1x64x512 .f32) (r : Vec F S1x64x512 .bf16) : FVec F S1x64x512 .f32 :=
  shapeCast S1x64x512 (addf (shapeCast S64x512 a shapeCasts_S1x64x512_S64x512)
    (extf .f32 (shapeCast S64x512 r shapeCasts_S1x64x512_S64x512) bitsLt_bf16_f32)) shapeCasts_S64x512_S1x64x512
def sumT (a : Vec F S1x64x512 .f32) (r : Vec F S1x64x512 .bf16) : FVec F S1x64x512 .bf16 :=
  shapeCast S1x64x512 (truncf .bf16 (addf (shapeCast S64x512 a shapeCasts_S1x64x512_S64x512)
    (extf .f32 (shapeCast S64x512 r shapeCasts_S1x64x512_S64x512) bitsLt_bf16_f32)) bitsLt_bf16_f32) shapeCasts_S64x512_S1x64x512

/-- One batch: its queries, and four heads each from its own load of the key and value blocks. -/
def bat (b : Fin 2) (wq : Vec F S512x256 .f32) : PP F (FVec F S256x256 .bf16) := do
  let x ← rdX b
  let k0 ← rdK b
  let v0 ← rdV b
  let k1 ← rdK b
  let v1 ← rdV b
  let k2 ← rdK b
  let v2 ← rdV b
  let k3 ← rdK b
  let v3 ← rdV b
  pure (concatenate S256x256 1 [⟨S256x64, headOut 0 (qOf x wq) k0 v0⟩, ⟨S256x64, headOut 1 (qOf x wq) k1 v1⟩,
    ⟨S256x64, headOut 2 (qOf x wq) k2 v2⟩, ⟨S256x64, headOut 3 (qOf x wq) k3 v3⟩]
    concatenates_S256x64_S256x64_S256x64_S256x64_S256x256_d1)

/-- One tile: stored, narrowed and stored, its two chunks sent. -/
def tileP (d d' : Dev nD) (h : Fin 4) (k k' : Fin 8) (t : FVec F S128x512 .f32) : PP F PUnit := do
  let _ ← rdAccH h
  stAccH h (shapeCast S1x128x512 t shapeCasts_S128x512_S1x128x512)
  let _ ← rdSAH h
  stSAH h (shapeCast S1x128x512 (truncf .bf16 t bitsLt_bf16_f32) shapeCasts_S128x512_S1x128x512)
  sendA d k
  sendA d' k'

/-- One chunk's first exchange completed, its second begun. -/
def phA (d : Dev nD) (k : Fin 8) : PP F PUnit := do
  wtSA k
  wtRA k
  let a ← rdAcc k
  let r ← rdRA k
  let _ ← rdAcc k
  stAcc k (sumP a r)
  let _ ← rdSB k
  stSB k (sumT a r)
  sendB d k

/-- One chunk's second exchange completed. -/
def phB (k : Fin 8) : PP F PUnit := do
  wtSB k
  wtRB k
  let a ← rdAcc k
  let r ← rdRB k
  let _ ← rdAcc k
  stAcc k (sumP a r)

/-- The loads, the two entry signals, the entry wait, the loads' waits. -/
def pre (dl dr : Dev nD) : PP F PUnit := do
  pLd0
  pLd1
  pLd2
  pLd3
  pLd4
  pSig dl
  pSig dr
  pBar
  pLw0
  pLw1
  pLw2
  pLw3
  pLw4

/-- Both batches and their four tiles. -/
def tiles (d : Fin 8 → Dev nD) : PP F PUnit := do
  let wq ← rdWq
  let wo ← rdWo
  let c0 ← bat 0 wq
  tileP (d 0) (d 1) 0 0 1 (tile 0 c0 wo)
  tileP (d 2) (d 3) 1 2 3 (tile 1 c0 wo)
  let c1 ← bat 1 wq
  tileP (d 4) (d 5) 2 4 5 (tile 0 c1 wo)
  tileP (d 6) (d 7) 3 6 7 (tile 1 c1 wo)

def phAs (d : Fin 8 → Dev nD) : PP F PUnit := do
  phA (d 0) 0
  phA (d 1) 1
  phA (d 2) 2
  phA (d 3) 3
  phA (d 4) 4
  phA (d 5) 5
  phA (d 6) 6
  phA (d 7) 7
  pure ⟨⟩

def phBs : PP F PUnit := do
  phB 0
  phB 1
  phB 2
  phB 3
  phB 4
  phB 5
  phB 6
  phB 7
  pure ⟨⟩

/-- Steps one after the other. -/
def chain : (n : ℕ) → (Fin n → PP F PUnit) → PP F PUnit
  | 0, _ => pure ⟨⟩
  | n + 1, f => f 0 >>= fun _ => chain n (fun k => f k.succ)
/-- The copies of the first exchange, written as a chain over the chunks. -/
theorem phAs_eq (d : Fin 8 → Dev nD) : (phAs d : PP F PUnit) = chain 8 (fun k => phA (d k) k) := rfl
/-- The steps of the second exchange, as a chain over the chunks. -/
theorem phBs_eq : (phBs : PP F PUnit) = chain 8 phB := rfl

/-- The body after the device number is read, over the devices it addresses. -/
def mainAt (dl dr : Dev nD) (dA dB : Fin 8 → Dev nD) : PP F PUnit := do
  pre dl dr
  tiles dA
  phAs dB
  phBs
  pOut
  pOw
  pure ⟨⟩

/-- The devices the printed body computes for its sixteen copies. -/
def devA (c : Dev nD) : Fin 8 → Dev nD
  | 0 => ⟨k0_dev3 c, k0_dev3_lt c⟩
  | 1 => ⟨k0_dev4 c, k0_dev4_lt c⟩
  | 2 => ⟨k0_dev5 c, k0_dev5_lt c⟩
  | 3 => ⟨k0_dev6 c, k0_dev6_lt c⟩
  | 4 => ⟨k0_dev7 c, k0_dev7_lt c⟩
  | 5 => ⟨k0_dev8 c, k0_dev8_lt c⟩
  | 6 => ⟨k0_dev9 c, k0_dev9_lt c⟩
  | 7 => ⟨k0_dev10 c, k0_dev10_lt c⟩
def devB (c : Dev nD) : Fin 8 → Dev nD
  | 0 => ⟨k0_dev11 c, k0_dev11_lt c⟩
  | 1 => ⟨k0_dev12 c, k0_dev12_lt c⟩
  | 2 => ⟨k0_dev13 c, k0_dev13_lt c⟩
  | 3 => ⟨k0_dev14 c, k0_dev14_lt c⟩
  | 4 => ⟨k0_dev15 c, k0_dev15_lt c⟩
  | 5 => ⟨k0_dev16 c, k0_dev16_lt c⟩
  | 6 => ⟨k0_dev17 c, k0_dev17_lt c⟩
  | 7 => ⟨k0_dev18 c, k0_dev18_lt c⟩

/-- They are the exchange partners. -/
theorem devA_eq (c : Dev nD) : devA c = p1 c := by
  have h : ∀ (c : Dev nD) (k : Fin 8), devA c k = p1 c k := by decide +kernel
  exact funext (h c)
/-- The device that a chunk of the second exchange goes to is the second partner. -/
theorem devB_eq (c : Dev nD) : devB c = p2 c := by
  have h : ∀ (c : Dev nD) (k : Fin 8), devB c k = p2 c k := by decide +kernel
  exact funext (h c)

/-- The devices of the entry signals: the neighbours in device order. -/
def sigL (c : Dev nD) : Dev nD := ⟨k0_dev1 c, k0_dev1_lt c⟩
def sigR (c : Dev nD) : Dev nD := ⟨k0_dev2 c, k0_dev2_lt c⟩
/-- They are the two partners, in an order that depends on the device's parity. -/
theorem sig_eq : ∀ c : Dev nD, (sigL c = pa c ∧ sigR c = pb c) ∨ (sigL c = pb c ∧ sigR c = pa c) := by decide +kernel

/-- The body is: read the device number, then the regrouped steps. -/
theorem Pbody_eq : (Pbody : PP F PUnit) = pId >>= fun c => mainAt (sigL c) (sigR c) (devA c) (devB c) := by
  simp only [Pbody, P1, P2, P3, P4, P5, P6, P7, P8, P9, P10, P11, P12, P13, P14, P15, P16, P17, P18, P19, P20, P21, P22, P23, P24, P25, P26, P27, P28, P29, P30, P31, P32, P33, P34, mainAt, pre, tiles, phAs, phBs, phA, phB, tileP, bat, Prog.bind_assoc, Prog.pure_eq_ret, Prog.bind_ret]
  rfl

end Cert.KernelIdeal.Attn
end
-- ==== Proof.Protocol.lean ====
module

public import proofs.«01_k».proof.Proof.Body
public import Idealize.ShloMosaic.Lib.Rounds
public import Idealize.ShloMosaic.Lib.Tactic
public import Idealize.ShloMosaic.Lib.Pipeline.RegionTalk

/-! The protocol of the two exchanges: which cell each device waits on, who pays it, how much, and what the payment hands
    over — the landed chunk at the contents its sender held. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Chunk and half sets -/

/-- The indices of chunk `k`, and of half `h`. -/
def setC (k : Fin 8) : Finset S2x256x512.Idx := Finset.univ.filter (fun i => chunk i = k)
def setH (h : Fin 4) : Finset S2x256x512.Idx := Finset.univ.filter (fun i => half i = h)

/-- An index is in a chunk's set when that is its chunk. -/
theorem mem_setC (k : Fin 8) (i : S2x256x512.Idx) : i ∈ setC k ↔ chunk i = k := by simp [setC]
/-- An index is in a half's set when that is its half. -/
theorem mem_setH (h : Fin 4) (i : S2x256x512.Idx) : i ∈ setH h ↔ half i = h := by simp [setH]

/-- A chunk's rectangle is its index set. -/
theorem rC_set (k : Fin 8) : (rC k).set = setC k := by
  ext i
  rw [Rect.mem_set_unit, mem_setC]
  have h0 : (i 0).val < 2 := (i 0).isLt
  have h1 : (i 1).val < 256 := (i 1).isLt
  have h2 : (i 2).val < 512 := (i 2).isLt
  have hk : k.val < 8 := k.isLt
  rw [Fin.ext_iff]
  show (∀ a : Fin 3, _) ↔ 4 * (i 0).val + (i 1).val / 64 = k.val
  rw [Fin.forall_fin_succ, Fin.forall_fin_two]
  show ((k.val / 4 ≤ (i 0).val ∧ (i 0).val < k.val / 4 + 1) ∧ (64 * (k.val % 4) ≤ (i 1).val ∧ (i 1).val < 64 * (k.val % 4) + 64)
    ∧ (0 ≤ (i 2).val ∧ (i 2).val < 0 + 512)) ↔ _
  omega
/-- A half's rectangle is its index set. -/
theorem rH_set (h : Fin 4) : (rH h).set = setH h := by
  ext i
  rw [Rect.mem_set_unit, mem_setH]
  have h0 : (i 0).val < 2 := (i 0).isLt
  have h1 : (i 1).val < 256 := (i 1).isLt
  have h2 : (i 2).val < 512 := (i 2).isLt
  have hk : h.val < 4 := h.isLt
  rw [Fin.ext_iff]
  show (∀ a : Fin 3, _) ↔ 2 * (i 0).val + (i 1).val / 128 = h.val
  rw [Fin.forall_fin_succ, Fin.forall_fin_two]
  show ((h.val / 2 ≤ (i 0).val ∧ (i 0).val < h.val / 2 + 1) ∧ (128 * (h.val % 2) ≤ (i 1).val ∧ (i 1).val < 128 * (h.val % 2) + 128)
    ∧ (0 ≤ (i 2).val ∧ (i 2).val < 0 + 512)) ↔ _
  omega

/-- The two chunks of a half. -/
def lo (h : Fin 4) : Fin 8 := ⟨2 * h.val, by omega⟩
def hi (h : Fin 4) : Fin 8 := ⟨2 * h.val + 1, by omega⟩
/-- A half is two chunks. -/
theorem setH_eq (h : Fin 4) : setH h = setC (lo h) ∪ setC (hi h) := by
  ext i
  rw [Finset.mem_union, mem_setH, mem_setC, mem_setC, Fin.ext_iff, Fin.ext_iff, Fin.ext_iff]
  show 2 * (i 0).val + (i 1).val / 128 = h.val ↔ 4 * (i 0).val + (i 1).val / 64 = 2 * h.val ∨ 4 * (i 0).val + (i 1).val / 64 = 2 * h.val + 1
  omega
/-- Different chunks are disjoint. -/
theorem setC_disj {k k' : Fin 8} (h : k ≠ k') : Disjoint (setC k) (setC k') :=
  Finset.disjoint_left.mpr fun i hi hi' => h (((mem_setC k i).mp hi).symm.trans ((mem_setC k' i).mp hi'))
/-- Different halves are disjoint. -/
theorem setH_disj {k k' : Fin 4} (h : k ≠ k') : Disjoint (setH k) (setH k') :=
  Finset.disjoint_left.mpr fun i hi hi' => h (((mem_setH k i).mp hi).symm.trans ((mem_setH k' i).mp hi'))
/-- The two chunks of a half differ. -/
theorem lo_ne_hi (h : Fin 4) : lo h ≠ hi h := fun e => by have := congrArg Fin.val e; simp [lo, hi] at this

/-! ## Points-tos -/

/-- Device `c`'s buffer `b` on the indices `I`, at `f`. -/
abbrev pt (c : Dev nD) (b : Ref sig .tc) (I : Finset b.ty.Idx) (f : b.ty.Contents (Elt F)) : sProp 𝕄 :=
  ((c : Thread nD τ).loc b) ↦[I]{fullShare} f
/-- The same at contents not chosen. -/
abbrev ptE (c : Dev nD) (b : Ref sig .tc) (I : Finset b.ty.Idx) : sProp 𝕄 := iprop(∃ f : b.ty.Contents (Elt F), pt c b I f)

/-! ## Cells -/

abbrev barCell (c : Dev nD) : GSem nD τ sig := ((c : Thread nD τ), .reg barS)
abbrev cSA (c : Dev nD) (k : Fin 8) : GSem nD τ sig := ((c : Thread nD τ), .dma (semSA k))
abbrev cRA (c : Dev nD) (k : Fin 8) : GSem nD τ sig := ((c : Thread nD τ), .dma (semRA k))
abbrev cSB (c : Dev nD) (k : Fin 8) : GSem nD τ sig := ((c : Thread nD τ), .dma (semSB k))
abbrev cRB (c : Dev nD) (k : Fin 8) : GSem nD τ sig := ((c : Thread nD τ), .dma (semRB k))

/-- What one chunk's copy credits. -/
def N : ℕ := (chM mRA 0).view.dmaCredit
/-- A chunk's credit is positive. -/
theorem N_pos : 0 < N := View.dmaCredit_pos _ (by decide)

/-- The partner named by a barrier duty: `true` across the first bit, `false` the mirrored one. -/
def par (c : Dev nD) (e : Bool) : Dev nD := if e then pa c else pb c
/-- Each of the two partnerships is mutual. -/
theorem par_par : ∀ (c : Dev nD) (e : Bool), par (par c e) e = c := by decide
/-- The parity names the first exchange's partner. -/
theorem par_even (c : Dev nD) (k : Fin 8) : par c (even k) = p1 c k := rfl
/-- The opposite parity names the second exchange's partner. -/
theorem par_odd (c : Dev nD) (k : Fin 8) : par c (!even k) = p2 c k := by unfold par p2; cases even k <;> rfl

/-- What device `q` hands its partner `par q e` at entry, for chunk `k`: the landing chunk the partner copies into — of the first
    exchange if the chunk's parity is `e`, else of the second — and that its landing cell's round 0 is open. -/
def barPay1 (q : Dev nD) (e : Bool) (k : Fin 8) : sProp 𝕄 :=
  if even k = e then iprop(ptE (F := F) q cc0_scratch7 (setC k) ∗ reached ER (cRA q k) 0)
  else iprop(ptE (F := F) q cc0_scratch9 (setC k) ∗ reached ER (cRB q k) 0)
def barPay (q : Dev nD) (e : Bool) : sProp 𝕄 := bigSep Finset.univ (fun k : Fin 8 => barPay1 (F := F) q e k)

/-- The chunk number of a semaphore of the group that starts at `n`. -/
def sub8 (n : ℕ) (s : DmaSem sig) : Fin 8 := ⟨(s.val - n) % 8, Nat.mod_lt _ (by decide)⟩

/-- What a local copy hands over: both buffers, the destination at the source's contents. -/
def locPay (c : Dev nD) : ℕ → sProp 𝕄
  | 0 => iprop(pt c cc0_scratch0 Finset.univ (xC m c) ∗ pt c main_arg0 Finset.univ (xC m c))
  | 1 => iprop(pt c cc0_scratch1 Finset.univ (wqC m c) ∗ pt c main_arg1 Finset.univ (wqC m c))
  | 2 => iprop(pt c cc0_scratch2 Finset.univ (kC m c) ∗ pt c main_v11 Finset.univ (kC m c))
  | 3 => iprop(pt c cc0_scratch3 Finset.univ (vC m c) ∗ pt c main_v18 Finset.univ (vC m c))
  | 4 => iprop(pt c cc0_scratch4 Finset.univ (woC m c) ∗ pt c main_arg4 Finset.univ (woC m c))
  | _ => iprop(pt c main_v19 Finset.univ (A2 m c) ∗ pt c cc0_scratch5 Finset.univ (A2 m c))
/-- What a local copy credits. -/
def locAmt : ℕ → ℕ
  | 0 => (mX : Memref sig .tc .vmem S2x256x512 .f32).view.dmaCredit
  | 1 => (mWq : Memref sig .tc .vmem S512x256 .f32).view.dmaCredit
  | 2 => (mK : Memref sig .tc .vmem S2x256x256 .bf16).view.dmaCredit
  | 3 => (mV : Memref sig .tc .vmem S2x256x256 .bf16).view.dmaCredit
  | 4 => (mWo : Memref sig .tc .vmem S256x512 .f32).view.dmaCredit
  | _ => (Memref.whole main_v19 : Memref sig .tc .hbm S2x256x512 .f32).view.dmaCredit
/-- A local copy's credit is positive. -/
theorem locAmt_pos (j : ℕ) : 0 < locAmt j := by
  unfold locAmt; split <;> exact View.dmaCredit_pos _ (by decide)
/-- What a copy on semaphore `s` credits. -/
def amt (s : DmaSem sig) : ℕ := if s.val < 6 then locAmt s.val else N
/-- Every copy semaphore's amount is positive. -/
theorem amt_pos (s : DmaSem sig) : 0 < amt s := by unfold amt; split; exacts [locAmt_pos _, N_pos]

/-- What a copy's cell hands over: a sent chunk back, a landed chunk at the partner's contents. -/
def dmaPay (c : Dev nD) (s : DmaSem sig) : sProp 𝕄 :=
  if s.val < 6 then locPay m c s.val
  else if s.val < 14 then pt c cc0_scratch6 (setC (sub8 6 s)) (SA m c)
  else if s.val < 22 then pt c cc0_scratch7 (setC (sub8 14 s)) (SA m (p1 c (sub8 14 s)))
  else if s.val < 30 then pt c cc0_scratch8 (setC (sub8 22 s)) (SB m c)
  else pt c cc0_scratch9 (setC (sub8 30 s)) (SB m (p2 c (sub8 30 s)))

/-- One round on every barrier cell (a unit from each partner) and on every cell of the copies. -/
def Rd : Rounds.Schedule (GSem nD τ sig) Bool 𝕄 where
  duties g r := if r = 0 ∧ g.1.2 = .tc then (match g.2 with
    | .reg s => if s = barS then {true, false} else ∅
    | .dma _ => {true}) else ∅
  unitless _ := False
  amount g _ _ := match g.2 with
    | .reg _ => 1
    | .dma s => amt s
  payload g _ d := match g.2 with
    | .reg _ => barPay (F := F) (par g.1.1 d) d
    | .dma s => dmaPay m g.1.1 s
  amount_pos g _ _ _ := by
    rcases g with ⟨_, s | s⟩
    · exact Nat.one_pos
    · exact amt_pos s

instance barPay1_storable (q : Dev nD) (e : Bool) (k : Fin 8) : BI.Storable (upEmb : UEmb _ 𝕄) (barPay1 (F := F) q e k) := by
  unfold barPay1; split <;> infer_instance
instance Rd_payload_storable (g : GSem nD τ sig) (r : ℕ) (d : Bool) :
    BI.Storable (upEmb : UEmb _ 𝕄) ((Rd (F := F) m).payload g r d) := by
  rcases g with ⟨t, s | s⟩
  · show BI.Storable upEmb (barPay (F := F) (par t.1 d) d)
    unfold barPay; infer_instance
  · show BI.Storable upEmb (dmaPay m t.1 s)
    unfold dmaPay locPay; (repeat' split) <;> infer_instance

section Table
variable (c : Dev nD) (k : Fin 8) (d : Bool)

/-- A barrier has two duties, one for each neighbour. -/
theorem duties_bar : (Rd (F := F) m).duties (barCell c) 0 = {true, false} := rfl
/-- A copy semaphore has one duty. -/
theorem duties_dma (s : DmaSem sig) : (Rd (F := F) m).duties ((c : Thread nD τ), .dma s) 0 = {true} := by
  dsimp only [Rd]; rw [if_pos ⟨rfl, rfl⟩]
/-- No cell has a duty in a later round. -/
theorem duties_later (g : GSem nD τ sig) : ∀ r, 1 ≤ r → (Rd (F := F) m).duties g r = ∅ := fun r hr => by
  dsimp only [Rd]; rw [if_neg (fun h => by omega)]
/-- A barrier's duty is one signal. -/
theorem amount_bar : (Rd (F := F) m).amount (barCell c) 0 d = 1 := rfl
/-- A copy's duty is its credit. -/
theorem amount_dma (s : DmaSem sig) : (Rd (F := F) m).amount ((c : Thread nD τ), .dma s) 0 d = amt s := rfl
/-- A barrier expects two signals. -/
theorem expect_bar : (Rd (F := F) m).expect (barCell c) 0 = 2 := by
  unfold Schedule.expect Schedule.amountOf; rw [duties_bar]; rfl
/-- A copy semaphore expects its copy's credit. -/
theorem expect_dma (s : DmaSem sig) : (Rd (F := F) m).expect ((c : Thread nD τ), .dma s) 0 = amt s := by
  unfold Schedule.expect Schedule.amountOf; rw [duties_dma m c s, Finset.sum_singleton, amount_dma]
/-- A neighbour's signal hands over its receive buffers. -/
theorem payload_bar : (Rd (F := F) m).payload (barCell c) 0 d = barPay (par c d) d := rfl
/-- The first exchange's send semaphore gives the sent chunk back. -/
theorem pay_SA : (Rd (F := F) m).payload (cSA c k) 0 d = pt c cc0_scratch6 (setC k) (SA m c) := by
  have hk := k.isLt
  have e : sub8 6 (semSA k) = k := Fin.ext (by show (6 + k.val - 6) % 8 = k.val; omega)
  show dmaPay m c (semSA k) = _
  unfold dmaPay
  rw [if_neg (by show ¬ 6 + k.val < 6; omega), if_pos (by show 6 + k.val < 14; omega), e]
/-- The first exchange's receive semaphore gives the received chunk. -/
theorem pay_RA : (Rd (F := F) m).payload (cRA c k) 0 d = pt c cc0_scratch7 (setC k) (SA m (p1 c k)) := by
  have hk := k.isLt
  have e : sub8 14 (semRA k) = k := Fin.ext (by show (14 + k.val - 14) % 8 = k.val; omega)
  show dmaPay m c (semRA k) = _
  unfold dmaPay
  rw [if_neg (by show ¬ 14 + k.val < 6; omega), if_neg (by show ¬ 14 + k.val < 14; omega), if_pos (by show 14 + k.val < 22; omega), e]
/-- The second exchange's send semaphore gives the sent chunk back. -/
theorem pay_SB : (Rd (F := F) m).payload (cSB c k) 0 d = pt c cc0_scratch8 (setC k) (SB m c) := by
  have hk := k.isLt
  have e : sub8 22 (semSB k) = k := Fin.ext (by show (22 + k.val - 22) % 8 = k.val; omega)
  show dmaPay m c (semSB k) = _
  unfold dmaPay
  rw [if_neg (by show ¬ 22 + k.val < 6; omega), if_neg (by show ¬ 22 + k.val < 14; omega), if_neg (by show ¬ 22 + k.val < 22; omega), if_pos (by show 22 + k.val < 30; omega), e]
/-- The second exchange's receive semaphore gives the received chunk. -/
theorem pay_RB : (Rd (F := F) m).payload (cRB c k) 0 d = pt c cc0_scratch9 (setC k) (SB m (p2 c k)) := by
  have hk := k.isLt
  have e : sub8 30 (semRB k) = k := Fin.ext (by show (30 + k.val - 30) % 8 = k.val; omega)
  show dmaPay m c (semRB k) = _
  unfold dmaPay
  rw [if_neg (by show ¬ 30 + k.val < 6; omega), if_neg (by show ¬ 30 + k.val < 14; omega), if_neg (by show ¬ 30 + k.val < 22; omega), if_neg (by show ¬ 30 + k.val < 30; omega), e]
/-- The credit of a chunk sent in the first exchange. -/
theorem amt_SA : amt (semSA k) = N := by unfold amt; rw [if_neg (by show ¬ 6 + k.val < 6; omega)]
/-- The credit of a chunk received in the first exchange. -/
theorem amt_RA : amt (semRA k) = N := by unfold amt; rw [if_neg (by show ¬ 14 + k.val < 6; omega)]
/-- The credit of a chunk sent in the second exchange. -/
theorem amt_SB : amt (semSB k) = N := by unfold amt; rw [if_neg (by show ¬ 22 + k.val < 6; omega)]
/-- The credit of a chunk received in the second exchange. -/
theorem amt_RB : amt (semRB k) = N := by unfold amt; rw [if_neg (by show ¬ 30 + k.val < 6; omega)]
/-- The credit of a load. -/
theorem amt_L (j : Fin 5) : amt (semL j) = locAmt j.val := by
  have h := j.isLt
  unfold amt; rw [if_pos (by show j.val < 6; omega)]; rfl
/-- The credit of the store. -/
theorem amt_O : amt semO = locAmt 5 := by unfold amt; rw [if_pos (by decide)]; rfl
/-- What a load's semaphore gives. -/
theorem pay_L (j : Fin 5) : (Rd (F := F) m).payload ((c : Thread nD τ), .dma (semL j)) 0 d = locPay m c j.val := by
  have h := j.isLt
  show dmaPay m c (semL j) = _
  unfold dmaPay; rw [if_pos (by show j.val < 6; omega)]; rfl
/-- What the store's semaphore gives. -/
theorem pay_O : (Rd (F := F) m).payload ((c : Thread nD τ), .dma semO) 0 d = locPay m c 5 := by
  show dmaPay m c semO = _
  unfold dmaPay; rw [if_pos (by decide)]; rfl
/-- What a copy semaphore's one duty gives. -/
theorem rest_dma (s : DmaSem sig) : bigSep ((Rd (F := F) m).duties ((c : Thread nD τ), .dma s) 0 \ ∅)
    (fun u => (Rd (F := F) m).payload ((c : Thread nD τ), .dma s) 0 u) = (Rd (F := F) m).payload ((c : Thread nD τ), .dma s) 0 true := by
  rw [Finset.sdiff_empty, duties_dma m c s, bigSep_singleton]
/-- What the barrier's two duties give. -/
theorem rest_bar : bigSep ((Rd (F := F) m).duties (barCell c) 0 \ ∅) (fun u => (Rd (F := F) m).payload (barCell c) 0 u)
    = iprop(barPay (F := F) (pa c) true ∗ barPay (F := F) (pb c) false) := by
  rw [Finset.sdiff_empty, duties_bar, bigSep_insert (by decide), bigSep_singleton]; rfl
end Table

/-! ## What each device owes; the levels -/

/-- What the device's `j`-th copy pays its partner: first the eight first exchanges, then the eight second. -/
def due (c : Dev nD) (j : ℕ) : CellTallies nD τ sig Unit :=
  if j < 8 then tallyAt (cRA (p1 c (Fin.ofNat 8 j)) (Fin.ofNat 8 j)) () N else tallyAt (cRB (p2 c (Fin.ofNat 8 j)) (Fin.ofNat 8 j)) () N
/-- What is owed once `n` copies are begun. -/
def debt (c : Dev nD) (n : ℕ) : CellTallies nD τ sig Unit := ∑ j ∈ Finset.Ico n 16, due c j
/-- The debt, less its next copy. -/
theorem debt_succ (c : Dev nD) {n : ℕ} (h : n < 16) : debt c n = debt c (n + 1) + due c n := by

  have e : Finset.Ico n 16 = insert n (Finset.Ico (n + 1) 16) := by ext j; simp only [Finset.mem_Ico, Finset.mem_insert]; omega
  unfold debt; rw [e, Finset.sum_insert (by simp), add_comm]
/-- After sixteen copies nothing is owed. -/
theorem debt_end (c : Dev nD) : debt c 16 = 0 := by unfold debt; rw [Finset.Ico_self, Finset.sum_empty]
/-- What the copy of a chunk in the first exchange pays. -/
theorem due_A (c : Dev nD) (k : Fin 8) : due c k.val = tallyAt (cRA (p1 c k) k) () N := by
  have e : Fin.ofNat 8 k.val = k := Fin.ext (Nat.mod_eq_of_lt k.isLt)
  unfold due; rw [if_pos k.isLt, e]
/-- What the copy of a chunk in the second exchange pays. -/
theorem due_B (c : Dev nD) (k : Fin 8) : due c (8 + k.val) = tallyAt (cRB (p2 c k) k) () N := by
  have e : Fin.ofNat 8 (8 + k.val) = k := Fin.ext (by have := k.isLt; show (8 + k.val) % 8 = _; omega)
  unfold due; rw [if_neg (by omega), e]

def L (g : GSem nD τ sig) : Finset Unit := if g.1.2 = .tc then {()} else ∅
/-- Entry cells below first-exchange landings below second-exchange landings; all else at 0. -/
def lv (g : GSem nD τ sig) (_ : Unit) : ℕ := match g.2 with
  | .reg _ => 1
  | .dma s => if s.val < 14 then 0 else if s.val < 22 then 2 else if s.val < 30 then 0 else 3
/-- Cells of other cores have no levels. -/
theorem L_of_ne (g : GSem nD τ sig) (h : g.1.2 ≠ .tc) : L g = ∅ := if_neg h
/-- A cell of the core has one level. -/
theorem L_tc (c : Dev nD) (sm : SemLoc sig) : L ((c : Thread nD τ), sm) = {()} := if_pos rfl
/-- The first exchange's receive semaphores are at level two. -/
theorem lv_RA (c : Dev nD) (k : Fin 8) (u : Unit) : lv (cRA c k) u = 2 := by
  have := k.isLt
  show (if 14 + k.val < 14 then 0 else if 14 + k.val < 22 then 2 else if 14 + k.val < 30 then 0 else 3) = 2
  rw [if_neg (by omega), if_pos (by omega)]
/-- The second exchange's receive semaphores are at level three. -/
theorem lv_RB (c : Dev nD) (k : Fin 8) (u : Unit) : lv (cRB c k) u = 3 := by
  have := k.isLt
  show (if 30 + k.val < 14 then 0 else if 30 + k.val < 22 then 2 else if 30 + k.val < 30 then 0 else 3) = 3
  rw [if_neg (by omega), if_neg (by omega), if_neg (by omega)]

/-- A payment still owed goes to a TensorCore landing cell, of level 3 once the first eight copies are begun. -/
theorem debt_pos {c : Dev nD} {n : ℕ} {g : GSem nD τ sig} {u : Unit} (h : 0 < debt c n g u) :
    u ∈ L g ∧ 1 < lv g u ∧ (8 ≤ n → 2 < lv g u) := by
  unfold debt at h
  rw [Finset.sum_apply, Finsupp.finset_sum_apply] at h
  obtain ⟨j, hj, hp⟩ := Finset.exists_ne_zero_of_sum_ne_zero (Nat.pos_iff_ne_zero.mp h)
  rw [Finset.mem_Ico] at hj
  by_cases hj8 : j < 8
  · unfold due at hp; rw [if_pos hj8, tallyAt_apply] at hp
    by_cases hg : g = cRA (p1 c (Fin.ofNat 8 j)) (Fin.ofNat 8 j) ∧ u = ()
    · rw [hg.1, L_tc, lv_RA]; exact ⟨Finset.mem_singleton_self _, by decide, fun h => by omega⟩
    · rw [if_neg hg] at hp; exact absurd rfl hp
  · unfold due at hp; rw [if_neg hj8, tallyAt_apply] at hp
    by_cases hg : g = cRB (p2 c (Fin.ofNat 8 j)) (Fin.ofNat 8 j) ∧ u = ()
    · rw [hg.1, L_tc, lv_RB]; exact ⟨Finset.mem_singleton_self _, by decide, fun h => by decide⟩
    · rw [if_neg hg] at hp; exact absurd rfl hp

/-- A wait on a cell of level at most 1 is admitted at any stage; of level at most 2 once the first eight copies are begun. -/
theorem mayWait_low (c : Dev nD) (sm : SemLoc sig) (n : ℕ) (hs : lv ((c : Thread nD τ), sm) () ≤ 1) :
    (levAts L lv : sProp 𝕄) ⊢ MayWait (c : Thread nD τ) sm () (debt c n) :=
  MayOwe.of_cut (L := L) (lev := lv) 1 (fun p hp => by rw [Finset.mem_singleton.mp hp, L_tc]; exact Finset.mem_singleton_self _)
    (fun g u hg => (debt_pos hg).1)
    (fun p hp => by rw [Finset.mem_singleton.mp hp]; exact hs)
    (fun g u hg => (debt_pos hg).2.1)
/-- After the first exchange's copies a device may wait at a lower level than what it still owes. -/
theorem mayWait_mid (c : Dev nD) (sm : SemLoc sig) (n : ℕ) (hn : 8 ≤ n) (hs : lv ((c : Thread nD τ), sm) () ≤ 2) :
    (levAts L lv : sProp 𝕄) ⊢ MayWait (c : Thread nD τ) sm () (debt c n) :=
  MayOwe.of_cut (L := L) (lev := lv) 2 (fun p hp => by rw [Finset.mem_singleton.mp hp, L_tc]; exact Finset.mem_singleton_self _)
    (fun g u hg => (debt_pos hg).1)
    (fun p hp => by rw [Finset.mem_singleton.mp hp]; exact hs)
    (fun g u hg => (debt_pos hg).2.2 hn)

/-- What device `c` owes from its two entry signals and all its copies. -/
def O₀ (c : Dev nD) : CellTallies nD τ sig Unit := debt c 0 + (tallyAt (barCell (pb c)) () 1 + tallyAt (barCell (pa c)) () 1)

end Cert.KernelIdeal.Attn
end
-- ==== Proof.Rules.lean ====
module

public import proofs.«01_k».proof.Proof.Protocol

/-! One rule per step of the body, over chunk numbers: what the step needs of the device's share of the memory and of the
    protocol, and what it gives back. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

abbrev 𝒱₀ : Variants := Variants.none

/-- Running `p` on device `c` ends in `Q`. -/
abbrev WP {α : Type} (c : Dev nD) (p : PP F α) (Q : α → sProp 𝕄) : sProp 𝕄 :=
  wp frame (wpE (defs₀ (F := F)) 𝒱₀ (c : Thread nD τ) none) Set.univ p Q

/-- A finished program meets its postcondition. -/
theorem wp_done {α : Type} (c : Dev nD) (a : α) (Q : α → sProp 𝕄) : Q a ⊢ WP c (.ret a) Q := by
  unfold WP; rw [wp_ret]
  iintro H; imodintro; iexact H

/-! ## The invariants, and what is owed -/

/-- The cell of copy semaphore `p.2` on device `p.1`. -/
abbrev dc (p : Dev nD × DmaSem sig) : GSem nD τ sig := ((p.1 : Thread nD τ), .dma p.2)

/-- The invariants of all cells. Persistent. -/
def Invs : sProp 𝕄 :=
  iprop(bigSep Finset.univ (fun c : Dev nD => cellInv ER (Rd m) (K (barCell c)) (barCell c))
    ∗ bigSep Finset.univ (fun p : Dev nD × DmaSem sig => cellInv ER (Rd m) (K (dc p)) (dc p)))
instance Invs_persistent : BI.Persistent (Invs m K) := by unfold Invs; infer_instance

/-- The invariant of one barrier. -/
theorem inv_bar (c : Dev nD) : Invs m K ⊢ cellInv ER (Rd m) (K (barCell c)) (barCell c) := by
  unfold Invs
  have h : (bigSep Finset.univ (fun c : Dev nD => cellInv ER (Rd m) (K (barCell c)) (barCell c)) : sProp 𝕄)
      ⊢ cellInv ER (Rd m) (K (barCell c)) (barCell c) := bigSep_elim (Finset.mem_univ c)
  iintro ⟨H, -⟩
  iapply h; iexact H
/-- The invariant of one copy semaphore. -/
theorem inv_dma (c : Dev nD) (s : DmaSem sig) : Invs m K ⊢ cellInv ER (Rd m) (K (dc (c, s))) (dc (c, s)) := by
  unfold Invs
  have h : (bigSep Finset.univ (fun p : Dev nD × DmaSem sig => cellInv ER (Rd m) (K (dc p)) (dc p)) : sProp 𝕄)
      ⊢ cellInv ER (Rd m) (K (dc (c, s))) (dc (c, s)) := bigSep_elim (Finset.mem_univ (c, s))
  iintro ⟨-, H⟩
  iapply h; iexact H

/-- Device `c` owes what copies `n` to 15 pay. -/
def Ow (c : Dev nD) (n : ℕ) : sProp 𝕄 := iprop(∃ W, owes (c : Thread nD τ) (debt c n) W)

/-- A cell whose only round is over gives its counter back at zero. -/
theorem close (g : GSem nD τ sig) :
    iprop(cellInv ER (Rd m) (K g) g ∗ atPos ER g (0 + 1) ∅ 0) ⊢ (|={Set.univ}=> semVal g 0 : sProp 𝕄) :=
  Rounds.cell_close ER (Rd m) (Set.mem_univ (K g)) id (duties_later m g)

/-! ## Waits -/

/-- The wait for a copy on semaphore `s`: the payload, the counter back at zero. -/
theorem wait_gen (c : Dev nD) (s : DmaSem sig) (n : ℕ) {s₁ s₂ : Shape} {e₁ e₂ : EltTy} {sp₁ sp₂ : Space}
    (src : Memref sig .tc sp₁ s₁ e₁) (dst : Memref sig .tc sp₂ s₂ e₂) (h1 : src.view.WordExact) (h2 : dst.view.WordExact)
    (hN : dst.view.dmaCredit = amt s) (hmw : (levAts L lv : sProp 𝕄) ⊢ MayWait (c : Thread nD τ) (.dma s) () (debt c n)) (Q : PUnit → sProp 𝕄) :
    iprop(Invs m K ∗ levAts L lv ∗ cred (tallyAt (dc (c, s)) () (amt s)) ∗ Ow c n ∗ atPos ER (dc (c, s)) 0 ∅ 0)
      ⊢ iprop(((Ow c n ∗ semVal (dc (c, s)) 0 ∗ (Rd m).payload (dc (c, s)) 0 true) -∗ Q ⟨⟩)
        -∗ WP c (Prog.lift (.waitDma2 s src dst h1 h2)) Q) := by
  unfold Ow
  iintro ⟨#HI, #Hlev, Hc, ⟨%W, HO⟩, Hat⟩ Hk
  ihave #Hi := (inv_dma m K c s) $$ HI
  unfold WP Prog.lift
  iapply (Rounds.wp_wait_rest_token 𝒱₀ ER (Rd m) (c : Thread nD τ) none (κ := K (dc (c, s)))
      (wpE_waitDma2_eq 𝒱₀ (c : Thread nD τ) none Set.univ) (Set.mem_univ _) () (O := debt c n) (W := W) (R := 0) (m := 0) (T := ∅)
      ((Nat.zero_add _).trans (hN.trans (expect_dma m c s).symm))) $$ [Hc HO Hat]
  · isplitr; · iexact Hi
    isplitl [Hc]; · rw [hN]; iexact Hc
    isplitl [HO]; · iexact HO
    isplitr; · iapply hmw; iexact Hlev
    iexact Hat
  iintro ⟨HO, Hat, -, Hpay⟩
  ihave Hp := (Entails.of_eq (rest_dma m c s)) $$ Hpay
  imod (close m K (dc (c, s))) $$ [Hat] with Hv
  · isplitr; · iexact Hi
    iexact Hat
  iapply (wp_done c ⟨⟩ Q)
  iapply Hk
  isplitl [HO]; · iexists _; iexact HO
  isplitl [Hv]; · iexact Hv
  iexact Hp

/-- The wait for the first exchange's chunk to leave. -/
theorem wp_wtSA (c : Dev nD) (k : Fin 8) (n : ℕ) (Q : PUnit → sProp 𝕄) :
    iprop(Invs m K ∗ levAts L lv ∗ cred (tallyAt (cSA c k) () N) ∗ Ow c n ∗ atPos ER (cSA c k) 0 ∅ 0)
      ⊢ iprop(((Ow c n ∗ semVal (cSA c k) 0 ∗ pt c cc0_scratch6 (setC k) (SA m c)) -∗ Q ⟨⟩) -∗ WP c (wtSA k) Q) := by
  have h := wait_gen m K c (semSA k) n (chM mRA k) (chM mSA k) (chM_words (Memref.isWhole_whole _) k) (chM_words (Memref.isWhole_whole _) k)
    (by rw [amt_SA]; rfl)
    (mayWait_low c _ n (by have := k.isLt; show (if 6 + k.val < 14 then 0 else _) ≤ 1; rw [if_pos (by omega)]; decide)) Q
  rw [pay_SA, amt_SA] at h; exact h
/-- The wait for the first exchange's chunk to land. -/
theorem wp_wtRA (c : Dev nD) (k : Fin 8) (n : ℕ) (hn : 8 ≤ n) (Q : PUnit → sProp 𝕄) :
    iprop(Invs m K ∗ levAts L lv ∗ cred (tallyAt (cRA c k) () N) ∗ Ow c n ∗ atPos ER (cRA c k) 0 ∅ 0)
      ⊢ iprop(((Ow c n ∗ semVal (cRA c k) 0 ∗ pt c cc0_scratch7 (setC k) (SA m (p1 c k))) -∗ Q ⟨⟩) -∗ WP c (wtRA k) Q) := by
  have h := wait_gen m K c (semRA k) n (chM mSA k) (chM mRA k) (chM_words (Memref.isWhole_whole _) k) (chM_words (Memref.isWhole_whole _) k)
    (by rw [amt_RA]; rfl) (mayWait_mid c _ n hn (by rw [lv_RA])) Q
  rw [pay_RA, amt_RA] at h; exact h
/-- The wait for the second exchange's chunk to leave. -/
theorem wp_wtSB (c : Dev nD) (k : Fin 8) (n : ℕ) (Q : PUnit → sProp 𝕄) :
    iprop(Invs m K ∗ levAts L lv ∗ cred (tallyAt (cSB c k) () N) ∗ Ow c n ∗ atPos ER (cSB c k) 0 ∅ 0)
      ⊢ iprop(((Ow c n ∗ semVal (cSB c k) 0 ∗ pt c cc0_scratch8 (setC k) (SB m c)) -∗ Q ⟨⟩) -∗ WP c (wtSB k) Q) := by
  have h := wait_gen m K c (semSB k) n (chM mRB k) (chM mSB k) (chM_words (Memref.isWhole_whole _) k) (chM_words (Memref.isWhole_whole _) k)
    (by rw [amt_SB]; rfl)
    (mayWait_low c _ n (by
      have := k.isLt
      show (if 22 + k.val < 14 then 0 else if 22 + k.val < 22 then 2 else if 22 + k.val < 30 then 0 else 3) ≤ 1
      rw [if_neg (by omega), if_neg (by omega), if_pos (by omega)]; decide)) Q
  rw [pay_SB, amt_SB] at h; exact h
/-- The wait for the second exchange's chunk to land: nothing is owed any more. -/
theorem wp_wtRB (c : Dev nD) (k : Fin 8) (Q : PUnit → sProp 𝕄) :
    iprop(Invs m K ∗ levAts L lv ∗ cred (tallyAt (cRB c k) () N) ∗ Ow c 16 ∗ atPos ER (cRB c k) 0 ∅ 0)
      ⊢ iprop(((Ow c 16 ∗ semVal (cRB c k) 0 ∗ pt c cc0_scratch9 (setC k) (SB m (p2 c k))) -∗ Q ⟨⟩) -∗ WP c (wtRB k) Q) := by
  have h := wait_gen m K c (semRB k) 16 (chM mSB k) (chM mRB k) (chM_words (Memref.isWhole_whole _) k) (chM_words (Memref.isWhole_whole _) k)
    (by rw [amt_RB]; rfl) (by rw [debt_end, MayWait_zero]; iintro -; iempintro) Q
  rw [pay_RB, amt_RB] at h; exact h

/-! ## Loads and stores -/

/-- A buffer's contents on chunk `k`, and on half `h`, as a load reads them. -/
def getC {α : Type} (k : Fin 8) (f : S2x256x512.Idx → α) : S1x64x512.Idx → α := fun j => f ((rC k).emb j)
def getH {α : Type} (h : Fin 4) (f : S2x256x512.Idx → α) : S1x128x512.Idx → α := fun j => f ((rH h).emb j)

/-- Elements just written through a view, at any contents that read as what was written. -/
theorem pt_write (c : Dev nD) {sp : Space} {s : Shape} {e : EltTy} (v : View sig .tc sp s e) (f g : Buf (Elt F) (v.loc (c : Thread nD τ)))
    (w : s.Idx → Elt F e) (h : v.read (Elt F) g = w) :
    ((v.loc (c : Thread nD τ) ↦[v.set]{fullShare} v.write (Elt F) f w Finset.univ : sProp 𝕄)) = (v.loc (c : Thread nD τ) ↦[v.set]{fullShare} g) :=
  pointsTo_congr fun i hi => by
    obtain ⟨x, -, rfl⟩ := Finset.mem_map.mp hi
    rw [View.write_emb_of_mem _ _ (Finset.mem_univ _), ← h, View.read_apply, cast_cast, cast_eq]

/-- A load through a view of a whole buffer. -/
theorem ld (c : Dev nD) {sp : CoreSpace} {s : Shape} {e : EltTy} (M : Memref sig .tc sp s e) (r : Rect s) (hl : M.view.LoadsAt r.toLoadRect)
    (S : Finset (Idx ((M.access r).loc (c : Thread nD τ)))) (hS : (M.access r).set ⊆ S) (f : Buf (Elt F) ((M.access r).loc (c : Thread nD τ)))
    (Q : _ → sProp 𝕄) :
    ((M.access r).loc (c : Thread nD τ) ↦[S]{fullShare} f)
      ⊢ iprop((((M.access r).loc (c : Thread nD τ) ↦[S]{fullShare} f) -∗ Q ((M.access r).read (Elt F) f))
        -∗ WP c (Prog.lift (.load M r.toLoadRect hl)) Q) := by
  iintro H Hk
  unfold WP Prog.lift
  iapply (wp_load_rect 𝒱₀ (c : Thread nD τ) none Set.univ hS) $$ H
  iintro H
  iapply (wp_done c _ Q)
  iapply Hk
  iexact H

/-- A store through a view of a whole buffer, over all of the view's elements, at contents that read as what is stored. -/
theorem st (c : Dev nD) {sp : CoreSpace} {s : Shape} {e : EltTy} (M : Memref sig .tc sp s e) (r : Rect s) (w : r.shape.Idx → Elt F e)
    (hx : (M.access r).Stores Finset.univ) (hm) (f g : Buf (Elt F) ((M.access r).loc (c : Thread nD τ)))
    (h : (M.access r).read (Elt F) g = w) (Q : PUnit → sProp 𝕄) :
    ((M.access r).loc (c : Thread nD τ) ↦[(M.access r).set]{fullShare} f)
      ⊢ iprop((((M.access r).loc (c : Thread nD τ) ↦[(M.access r).set]{fullShare} g) -∗ Q ⟨⟩)
        -∗ WP c (Prog.lift (.store M r w Finset.univ hx hm)) Q) := by
  iintro H Hk
  unfold WP Prog.lift
  iapply (wp_store 𝒱₀ (c : Thread nD τ) none Set.univ (by rw [View.setOn_univ])) $$ H
  iintro H
  iapply (wp_done c ⟨⟩ Q)
  iapply Hk
  iapply (Entails.of_eq (pt_write c (M.access r) f g w h)) $$ H

/-- The indices that an access to a chunk of the accumulator touches. -/
theorem accC5 (k : Fin 8) : (mAcc.access (rC k)).set = setC k := by rw [View.set_slice_whole, rC_set]
/-- The indices that an access to a chunk of the first receive buffer touches. -/
theorem accC7 (k : Fin 8) : (mRA.access (rC k)).set = setC k := by rw [View.set_slice_whole, rC_set]
/-- The indices that an access to a chunk of the second send buffer touches. -/
theorem accC8 (k : Fin 8) : (mSB.access (rC k)).set = setC k := by rw [View.set_slice_whole, rC_set]
/-- The indices that an access to a chunk of the second receive buffer touches. -/
theorem accC9 (k : Fin 8) : (mRB.access (rC k)).set = setC k := by rw [View.set_slice_whole, rC_set]
/-- The indices that an access to a half of the accumulator touches. -/
theorem accH5 (h : Fin 4) : (mAcc.access (rH h)).set = setH h := by rw [View.set_slice_whole, rH_set]
/-- The indices that an access to a half of the first send buffer touches. -/
theorem accH6 (h : Fin 4) : (mSA.access (rH h)).set = setH h := by rw [View.set_slice_whole, rH_set]
/-- The indices of a chunk of the first send buffer. -/
theorem chM6 (k : Fin 8) : (chM mSA k).view.set = setC k := by rw [View.set_reshape, View.set_slice_whole, rC_set]
/-- The indices of a chunk of the first receive buffer. -/
theorem chM7 (k : Fin 8) : (chM mRA k).view.set = setC k := by rw [View.set_reshape, View.set_slice_whole, rC_set]
/-- The indices of a chunk of the second send buffer. -/
theorem chM8 (k : Fin 8) : (chM mSB k).view.set = setC k := by rw [View.set_reshape, View.set_slice_whole, rC_set]
/-- The indices of a chunk of the second receive buffer. -/
theorem chM9 (k : Fin 8) : (chM mRB k).view.set = setC k := by rw [View.set_reshape, View.set_slice_whole, rC_set]

section Acc
variable (c : Dev nD) (k : Fin 8) (h : Fin 4)
/-- Reading a chunk of the accumulator. -/
theorem wp_rdAcc (f) (Q : _ → sProp 𝕄) :
    pt c cc0_scratch5 (setC k) f ⊢ iprop((pt c cc0_scratch5 (setC k) f -∗ Q (getC k f)) -∗ WP c (rdAcc k) Q) :=
  ld c mAcc (rC k) _ (setC k) (by rw [accC5]) f Q
/-- Reading a chunk received in the first exchange. -/
theorem wp_rdRA (f) (Q : _ → sProp 𝕄) :
    pt c cc0_scratch7 (setC k) f ⊢ iprop((pt c cc0_scratch7 (setC k) f -∗ Q (getC k f)) -∗ WP c (rdRA k) Q) :=
  ld c mRA (rC k) _ (setC k) (by rw [accC7]) f Q
/-- Reading a chunk of the second exchange's send buffer. -/
theorem wp_rdSB (f) (Q : _ → sProp 𝕄) :
    pt c cc0_scratch8 (setC k) f ⊢ iprop((pt c cc0_scratch8 (setC k) f -∗ Q (getC k f)) -∗ WP c (rdSB k) Q) :=
  ld c mSB (rC k) _ (setC k) (by rw [accC8]) f Q
/-- Reading a chunk received in the second exchange. -/
theorem wp_rdRB (f) (Q : _ → sProp 𝕄) :
    pt c cc0_scratch9 (setC k) f ⊢ iprop((pt c cc0_scratch9 (setC k) f -∗ Q (getC k f)) -∗ WP c (rdRB k) Q) :=
  ld c mRB (rC k) _ (setC k) (by rw [accC9]) f Q
/-- Reading a half of the accumulator. -/
theorem wp_rdAccH (f) (Q : _ → sProp 𝕄) :
    pt c cc0_scratch5 (setH h) f ⊢ iprop((pt c cc0_scratch5 (setH h) f -∗ Q (getH h f)) -∗ WP c (rdAccH h) Q) :=
  ld c mAcc (rH h) _ (setH h) (by rw [accH5]) f Q
/-- Reading a half of the first exchange's send buffer. -/
theorem wp_rdSAH (f) (Q : _ → sProp 𝕄) :
    pt c cc0_scratch6 (setH h) f ⊢ iprop((pt c cc0_scratch6 (setH h) f -∗ Q (getH h f)) -∗ WP c (rdSAH h) Q) :=
  ld c mSA (rH h) _ (setH h) (by rw [accH6]) f Q
/-- Storing a chunk of the accumulator. -/
theorem wp_stAcc (f g) (w : FVec F S1x64x512 .f32) (hw : getC k g = w) (Q : _ → sProp 𝕄) :
    pt c cc0_scratch5 (setC k) f ⊢ iprop((pt c cc0_scratch5 (setC k) g -∗ Q ⟨⟩) -∗ WP c (stAcc k w) Q) := by
  have h := st c mAcc (rC k) w (View.stores_vmem_bits_univ h_S1x64x512 rfl) (.inl rfl) f g hw Q
  rw [accC5] at h; exact h
/-- Storing a chunk of the second exchange's send buffer. -/
theorem wp_stSB (f g) (w : FVec F S1x64x512 .bf16) (hw : getC k g = w) (Q : _ → sProp 𝕄) :
    pt c cc0_scratch8 (setC k) f ⊢ iprop((pt c cc0_scratch8 (setC k) g -∗ Q ⟨⟩) -∗ WP c (stSB k w) Q) := by
  have h := st c mSB (rC k) w (View.stores_vmem h_S1x64x512 ((Memref.isWhole_whole _).storeExact_slice rfl _ (packedC k)) (fun _ => rfl))
    (.inl rfl) f g hw Q
  rw [accC8] at h; exact h
/-- Storing a half of the accumulator. -/
theorem wp_stAccH (f g) (w : FVec F S1x128x512 .f32) (hw : getH h g = w) (Q : _ → sProp 𝕄) :
    pt c cc0_scratch5 (setH h) f ⊢ iprop((pt c cc0_scratch5 (setH h) g -∗ Q ⟨⟩) -∗ WP c (stAccH h w) Q) := by
  have h' := st c mAcc (rH h) w (View.stores_vmem_bits_univ h_S1x128x512 rfl) (.inl rfl) f g hw Q
  rw [accH5] at h'; exact h'
/-- Storing a half of the first exchange's send buffer. -/
theorem wp_stSAH (f g) (w : FVec F S1x128x512 .bf16) (hw : getH h g = w) (Q : _ → sProp 𝕄) :
    pt c cc0_scratch6 (setH h) f ⊢ iprop((pt c cc0_scratch6 (setH h) g -∗ Q ⟨⟩) -∗ WP c (stSAH h w) Q) := by
  have h' := st c mSA (rH h) w (View.stores_vmem h_S1x128x512 ((Memref.isWhole_whole _).storeExact_slice rfl _ (packedH h)) (fun _ => rfl))
    (.inl rfl) f g hw Q
  rw [accH6] at h'; exact h'

/-- A batch's block of the activations, of the keys, of the values. -/
theorem wp_rdX (b : Fin 2) (f) (Q : _ → sProp 𝕄) :
    pt c cc0_scratch0 Finset.univ f ⊢ iprop((pt c cc0_scratch0 Finset.univ f -∗ Q (slab b f)) -∗ WP c (rdX b) Q) := by
  have h := ld c mX (Rect.unit (s := S2x256x512) ![b.val, 0, 0] S1x256x512.size (inbX b)) (View.loadsAt_vmem h_S1x256x512) Finset.univ
    (Finset.subset_univ _) f Q
  rw [show (mX.access (Rect.unit (s := S2x256x512) ![b.val, 0, 0] S1x256x512.size (inbX b))).read (Elt F) f = slab b f from rfl] at h
  exact h
/-- Reading a batch of the keys. -/
theorem wp_rdK (b : Fin 2) (f) (Q : _ → sProp 𝕄) :
    pt c cc0_scratch2 Finset.univ f ⊢ iprop((pt c cc0_scratch2 Finset.univ f -∗ Q (slabK b f)) -∗ WP c (rdK b) Q) := by
  have h := ld c mK (Rect.unit (s := S2x256x256) ![b.val, 0, 0] S1x256x256.size (inbK b)) (View.loadsAt_vmem h_S1x256x256) Finset.univ
    (Finset.subset_univ _) f Q
  rw [show (mK.access (Rect.unit (s := S2x256x256) ![b.val, 0, 0] S1x256x256.size (inbK b))).read (Elt F) f = slabK b f from rfl] at h
  exact h
/-- Reading a batch of the values. -/
theorem wp_rdV (b : Fin 2) (f) (Q : _ → sProp 𝕄) :
    pt c cc0_scratch3 Finset.univ f ⊢ iprop((pt c cc0_scratch3 Finset.univ f -∗ Q (slabK b f)) -∗ WP c (rdV b) Q) := by
  have h := ld c mV (Rect.unit (s := S2x256x256) ![b.val, 0, 0] S1x256x256.size (inbK b)) (View.loadsAt_vmem h_S1x256x256) Finset.univ
    (Finset.subset_univ _) f Q
  rw [show (mV.access (Rect.unit (s := S2x256x256) ![b.val, 0, 0] S1x256x256.size (inbK b))).read (Elt F) f = slabK b f from rfl] at h
  exact h
/-- Reading the query weights. -/
theorem wp_rdWq (f : Vec F S512x256 .f32) (Q : _ → sProp 𝕄) :
    pt c cc0_scratch1 Finset.univ f ⊢ iprop((pt c cc0_scratch1 Finset.univ f -∗ Q f) -∗ WP c rdWq Q) := by
  have h := ld c mWq (Rect.unit (s := S512x256) ![0, 0] S512x256.size inb_S512x256_S512x256_0_0) (View.loadsAt_vmem h_S512x256)
    Finset.univ (Finset.subset_univ _) f Q
  have e : (mWq.access (Rect.unit (s := S512x256) ![0, 0] S512x256.size inb_S512x256_S512x256_0_0)).read (Elt F) f = f := by
    funext j
    refine congrArg f (funext fun a => Fin.ext ?_)
    show (![0, 0] : Fin 2 → ℕ) a + 1 * (j a).val = (j a).val
    have e0 : ∀ a : Fin 2, (![0, 0] : Fin 2 → ℕ) a = 0 := by decide
    rw [show (![0, 0] : Fin 2 → ℕ) a = 0 from e0 a]; omega
  rw [e] at h; exact h
/-- Reading the output weights. -/
theorem wp_rdWo (f : Vec F S256x512 .f32) (Q : _ → sProp 𝕄) :
    pt c cc0_scratch4 Finset.univ f ⊢ iprop((pt c cc0_scratch4 Finset.univ f -∗ Q f) -∗ WP c rdWo Q) := by
  have h := ld c mWo (Rect.unit (s := S256x512) ![0, 0] S256x512.size inb_S256x512_S256x512_0_0) (View.loadsAt_vmem h_S256x512)
    Finset.univ (Finset.subset_univ _) f Q
  have e : (mWo.access (Rect.unit (s := S256x512) ![0, 0] S256x512.size inb_S256x512_S256x512_0_0)).read (Elt F) f = f := by
    funext j
    refine congrArg f (funext fun a => Fin.ext ?_)
    show (![0, 0] : Fin 2 → ℕ) a + 1 * (j a).val = (j a).val
    have e0 : ∀ a : Fin 2, (![0, 0] : Fin 2 → ℕ) a = 0 := by decide
    rw [show (![0, 0] : Fin 2 → ℕ) a = 0 from e0 a]; omega
  rw [e] at h; exact h
end Acc

/-! ## Copies to a partner -/

/-- The first exchange of chunk `k`, begun. -/
theorem wp_sendA (c : Dev nD) (k : Fin 8) (Q : PUnit → sProp 𝕄) :
    iprop(Invs m K ∗ pt c cc0_scratch6 (setC k) (SA m c) ∗ ptE (F := F) (p1 c k) cc0_scratch7 (setC k) ∗ Ow c k.val
        ∗ dutyTok ER (cSA c k) 0 true ∗ reached ER (cSA c k) 0 ∗ dutyTok ER (cRA (p1 c k) k) 0 true ∗ reached ER (cRA (p1 c k) k) 0)
      ⊢ iprop(((cred (tallyAt (cSA c k) () N) ∗ Ow c (k.val + 1)) -∗ Q ⟨⟩) -∗ WP c (sendA (p1 c k) k) Q) := by
  unfold Ow
  iintro ⟨#HI, Hs, ⟨%fd, Hd⟩, ⟨%W, HO⟩, Ht1, Hr1, Ht2, Hr2⟩ Hk
  ihave #Hi1 := (inv_dma m K c (semSA k)) $$ HI
  ihave #Hi2 := (inv_dma m K (p1 c k) (semRA k)) $$ HI
  unfold WP sendA Prog.lift
  iapply (Rounds.wp_send_pointsTo 𝒱₀ ER (Rd m) (c : Thread nD τ) none (c' := (p1 c k : Thread nD τ)) (src := chM mSA k) (dst := chM mRA k)
      (sS := .dma (semSA k)) (sem := .dma (semRA k)) (q := fullShare) (fs := SA m c) (κ₁ := K (cSA c k)) (κ₂ := K (cRA (p1 c k) k))
      (r₁ := 0) (r₂ := 0) (d₁ := true) (d₂ := true) (fd := fd)
      (by rw [duties_dma]; exact Finset.mem_singleton_self _) (by rw [duties_dma]; exact Finset.mem_singleton_self _)
      () () N rfl (by rw [amount_dma, amt_SA]) (by rw [amount_dma, amt_RA]) (O₀ := debt c k.val) (debt c (k.val + 1))
      (by rw [debt_succ c (by have := k.isLt; omega), due_A]) (W := W)
      (by rw [pay_SA, chM6])
      (by rw [pay_RA, pt_write (p1 c k) (chM mRA k).view fd (SA m c) ((chM mSA k).view.read (Elt F) (SA m c)) rfl, chM7, p1_p1])) $$ [Hs Hd HO Ht1 Hr1 Ht2 Hr2]
  · isplitr; · iexact Hi1
    isplitr; · iexact Hi2
    isplitl [Hs]; · rw [chM6]; iexact Hs
    isplitl [Hd]; · rw [chM7]; iexact Hd
    isplitl [HO]; · iexact HO
    isplitl [Ht1]; · iexact Ht1
    isplitl [Hr1]; · iexact Hr1
    isplitl [Ht2]; · iexact Ht2
    iexact Hr2
  iintro ⟨Hc, HO⟩
  iapply (wp_done c ⟨⟩ Q)
  iapply Hk
  isplitl [Hc]; · iexact Hc
  iexists _; iexact HO

/-- The second exchange of chunk `k`, begun. -/
theorem wp_sendB (c : Dev nD) (k : Fin 8) (Q : PUnit → sProp 𝕄) :
    iprop(Invs m K ∗ pt c cc0_scratch8 (setC k) (SB m c) ∗ ptE (F := F) (p2 c k) cc0_scratch9 (setC k) ∗ Ow c (8 + k.val)
        ∗ dutyTok ER (cSB c k) 0 true ∗ reached ER (cSB c k) 0 ∗ dutyTok ER (cRB (p2 c k) k) 0 true ∗ reached ER (cRB (p2 c k) k) 0)
      ⊢ iprop(((cred (tallyAt (cSB c k) () N) ∗ Ow c (8 + k.val + 1)) -∗ Q ⟨⟩) -∗ WP c (sendB (p2 c k) k) Q) := by
  unfold Ow
  iintro ⟨#HI, Hs, ⟨%fd, Hd⟩, ⟨%W, HO⟩, Ht1, Hr1, Ht2, Hr2⟩ Hk
  ihave #Hi1 := (inv_dma m K c (semSB k)) $$ HI
  ihave #Hi2 := (inv_dma m K (p2 c k) (semRB k)) $$ HI
  unfold WP sendB Prog.lift
  iapply (Rounds.wp_send_pointsTo 𝒱₀ ER (Rd m) (c : Thread nD τ) none (c' := (p2 c k : Thread nD τ)) (src := chM mSB k) (dst := chM mRB k)
      (sS := .dma (semSB k)) (sem := .dma (semRB k)) (q := fullShare) (fs := SB m c) (κ₁ := K (cSB c k)) (κ₂ := K (cRB (p2 c k) k))
      (r₁ := 0) (r₂ := 0) (d₁ := true) (d₂ := true) (fd := fd)
      (by rw [duties_dma]; exact Finset.mem_singleton_self _) (by rw [duties_dma]; exact Finset.mem_singleton_self _)
      () () N rfl (by rw [amount_dma, amt_SB]) (by rw [amount_dma, amt_RB]) (O₀ := debt c (8 + k.val)) (debt c (8 + k.val + 1))
      (by rw [debt_succ c (by have := k.isLt; omega), due_B]) (W := W)
      (by rw [pay_SB, chM8])
      (by rw [pay_RB, pt_write (p2 c k) (chM mRB k).view fd (SB m c) ((chM mSB k).view.read (Elt F) (SB m c)) rfl, chM9, p2_p2])) $$ [Hs Hd HO Ht1 Hr1 Ht2 Hr2]
  · isplitr; · iexact Hi1
    isplitr; · iexact Hi2
    isplitl [Hs]; · rw [chM8]; iexact Hs
    isplitl [Hd]; · rw [chM9]; iexact Hd
    isplitl [HO]; · iexact HO
    isplitl [Ht1]; · iexact Ht1
    isplitl [Hr1]; · iexact Hr1
    isplitl [Ht2]; · iexact Ht2
    iexact Hr2
  iintro ⟨Hc, HO⟩
  iapply (wp_done c ⟨⟩ Q)
  iapply Hk
  isplitl [Hc]; · iexact Hc
  iexists _; iexact HO

end Cert.KernelIdeal.Attn
end
-- ==== Proof.Rules2.lean ====
module

public import proofs.«01_k».proof.Proof.Rules

/-! The rules of the steps at entry and at the end: the loads' and the store's copies, the entry signals, the entry wait. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## Local copies -/

/-- A copy within the device of one whole buffer into another. -/
theorem cp_gen (c : Dev nD) (s : DmaSem sig) {sp₁ sp₂ : Space} {sh : Shape} {e : EltTy}
    (src : Memref sig .tc sp₁ sh e) (dst : Memref sig .tc sp₂ sh e) (h1 : src.view.WordExact) (h2 : dst.view.WordExact)
    (h3 : DmaTarget.Typed (nD := nD) (τ := τ) (p := .tc) sp₁ (.dma s) (.here dst)) (hN : dst.view.dmaCredit = amt s)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ (Rd m).payload (dc (c, s)) 0 true)
    (Q : PUnit → sProp 𝕄) :
    iprop(Invs m K ∗ (src.view.loc (c : Thread nD τ) ↦[src.view.set]{fullShare} fs) ∗ (dst.view.loc (c : Thread nD τ) ↦[dst.view.set]{fullShare} fd)
        ∗ dutyTok ER (dc (c, s)) 0 true ∗ reached ER (dc (c, s)) 0)
      ⊢ iprop((cred (tallyAt (dc (c, s)) () (amt s)) -∗ Q ⟨⟩)
        -∗ WP c (Prog.lift (.enqueueDma src (.here dst) (.dma s) h1 h2 h3)) Q) := by
  iintro ⟨#HI, Hs, Hd, Ht, Hr⟩ Hk
  ihave #Hi := (inv_dma m K c s) $$ HI
  unfold WP Prog.lift
  iapply (Rounds.wp_copy_pointsTo 𝒱₀ ER (Rd m) (c : Thread nD τ) none (src := src) (dst := dst) (sem := .dma s) (q := fullShare)
      (fs := fs) (fd := fd) (r := 0) (d := true) (κ := K (dc (c, s)))
      (by rw [duties_dma]; exact Finset.mem_singleton_self _) () (amt s) hN (amount_dma m c true s) hpay) $$ [Hs Hd Ht Hr]
  · isplitr; · iexact Hi
    isplitl [Hs]; · iexact Hs
    isplitl [Hd]; · iexact Hd
    isplitl [Ht] <;> iassumption
  iintro Hc
  iapply (wp_done c ⟨⟩ Q)
  iapply Hk
  iexact Hc

/-- The same for two whole buffers, whatever the destination held. -/
theorem cp_whole (c : Dev nD) (s : DmaSem sig) {sp₁ sp₂ : Space} {sh : Shape} {e : EltTy}
    (src : Memref sig .tc sp₁ sh e) (dst : Memref sig .tc sp₂ sh e) (h1 : src.view.WordExact) (h2 : dst.view.WordExact)
    (h3 : DmaTarget.Typed (nD := nD) (τ := τ) (p := .tc) sp₁ (.dma s) (.here dst)) (hN : dst.view.dmaCredit = amt s)
    (fs : Buf (Elt F) (src.view.loc (c : Thread nD τ))) (g : Buf (Elt F) (dst.view.loc (c : Thread nD τ)))
    (hs : src.view.set = Finset.univ) (hd : dst.view.set = Finset.univ)
    (hg : ∀ fd, dst.view.write (Elt F) fd (src.view.read (Elt F) fs) Finset.univ = g)
    (hpay : iprop((dst.view.loc (c : Thread nD τ) ↦[Finset.univ]{fullShare} g)
        ∗ (src.view.loc (c : Thread nD τ) ↦[Finset.univ]{fullShare} fs)) = (Rd m).payload (dc (c, s)) 0 true) (Q : PUnit → sProp 𝕄) :
    iprop(Invs m K ∗ (src.view.loc (c : Thread nD τ) ↦[Finset.univ]{fullShare} fs)
        ∗ (∃ fd : Buf (Elt F) (dst.view.loc (c : Thread nD τ)), dst.view.loc (c : Thread nD τ) ↦[Finset.univ]{fullShare} fd)
        ∗ dutyTok ER (dc (c, s)) 0 true ∗ reached ER (dc (c, s)) 0)
      ⊢ iprop((cred (tallyAt (dc (c, s)) () (amt s)) -∗ Q ⟨⟩)
        -∗ WP c (Prog.lift (.enqueueDma src (.here dst) (.dma s) h1 h2 h3)) Q) := by
  iintro ⟨HI, Hs, ⟨%fd, Hd⟩, Ht, Hr⟩ Hk
  have h := cp_gen m K c s src dst h1 h2 h3 hN fs fd (by rw [hs, hd, hg]; exact Entails.of_eq hpay) Q
  rw [hs, hd] at h
  iapply h $$ [HI Hs Hd Ht Hr]
  · isplitl [HI]; · iexact HI
    isplitl [Hs]; · iexact Hs
    isplitl [Hd]; · iexact Hd
    isplitl [Ht] <;> iassumption
  iexact Hk

/-- What begins a copy on semaphore `s` from `b` at `f` into `b'`: both buffers, the cell's duty. -/
abbrev CpPre (c : Dev nD) (s : DmaSem sig) (b b' : Ref sig .tc) (f : b.ty.Contents (Elt F)) : sProp 𝕄 :=
  iprop(Invs m K ∗ pt c b Finset.univ f ∗ ptE (F := F) c b' Finset.univ ∗ dutyTok ER (dc (c, s)) 0 true ∗ reached ER (dc (c, s)) 0)
/-- The credit to wait for it. -/
abbrev CpPost (c : Dev nD) (s : DmaSem sig) : sProp 𝕄 := cred (tallyAt (dc (c, s)) () (amt s))
/-- What a wait for it takes, and what it gives back. -/
abbrev LwPre (c : Dev nD) (s : DmaSem sig) (n : ℕ) : sProp 𝕄 :=
  iprop(Invs m K ∗ levAts L lv ∗ cred (tallyAt (dc (c, s)) () (amt s)) ∗ Ow c n ∗ atPos ER (dc (c, s)) 0 ∅ 0)
abbrev LwPost (c : Dev nD) (s : DmaSem sig) (n : ℕ) (P : sProp 𝕄) : sProp 𝕄 := iprop(Ow c n ∗ semVal (dc (c, s)) 0 ∗ P)

/-- Starting the load of the input. -/
theorem wp_Ld0 (c : Dev nD) (Q : PUnit → sProp 𝕄) :
    CpPre m K c (semL 0) main_arg0 cc0_scratch0 (xC m c) ⊢ iprop((CpPost c (semL 0) -∗ Q ⟨⟩) -∗ WP c pLd0 Q) :=
  cp_whole m K c (semL 0) (Memref.whole main_arg0) mX (Memref.isWhole_whole _).wordExact (Memref.isWhole_whole _).wordExact ⟨Or.inl rfl, trivial⟩
    (amt_L 0).symm (xC m c) (xC m c) (View.set_whole _) (View.set_whole _) (fun fd => View.write_whole_univ cc0_scratch0 fd (xC m c)) (pay_L m c true 0).symm Q
/-- Starting the load of the query weights. -/
theorem wp_Ld1 (c : Dev nD) (Q : PUnit → sProp 𝕄) :
    CpPre m K c (semL 1) main_arg1 cc0_scratch1 (wqC m c) ⊢ iprop((CpPost c (semL 1) -∗ Q ⟨⟩) -∗ WP c pLd1 Q) :=
  cp_whole m K c (semL 1) (Memref.whole main_arg1) mWq (Memref.isWhole_whole _).wordExact (Memref.isWhole_whole _).wordExact ⟨Or.inl rfl, trivial⟩
    (amt_L 1).symm (wqC m c) (wqC m c) (View.set_whole _) (View.set_whole _) (fun fd => View.write_whole_univ cc0_scratch1 fd (wqC m c)) (pay_L m c true 1).symm Q
/-- Starting the load of the keys. -/
theorem wp_Ld2 (c : Dev nD) (Q : PUnit → sProp 𝕄) :
    CpPre m K c (semL 2) main_v11 cc0_scratch2 (kC m c) ⊢ iprop((CpPost c (semL 2) -∗ Q ⟨⟩) -∗ WP c pLd2 Q) :=
  cp_whole m K c (semL 2) (Memref.whole main_v11) mK (Memref.isWhole_whole _).wordExact (Memref.isWhole_whole _).wordExact ⟨Or.inl rfl, trivial⟩
    (amt_L 2).symm (kC m c) (kC m c) (View.set_whole _) (View.set_whole _) (fun fd => View.write_whole_univ cc0_scratch2 fd (kC m c)) (pay_L m c true 2).symm Q
/-- Starting the load of the values. -/
theorem wp_Ld3 (c : Dev nD) (Q : PUnit → sProp 𝕄) :
    CpPre m K c (semL 3) main_v18 cc0_scratch3 (vC m c) ⊢ iprop((CpPost c (semL 3) -∗ Q ⟨⟩) -∗ WP c pLd3 Q) :=
  cp_whole m K c (semL 3) (Memref.whole main_v18) mV (Memref.isWhole_whole _).wordExact (Memref.isWhole_whole _).wordExact ⟨Or.inl rfl, trivial⟩
    (amt_L 3).symm (vC m c) (vC m c) (View.set_whole _) (View.set_whole _) (fun fd => View.write_whole_univ cc0_scratch3 fd (vC m c)) (pay_L m c true 3).symm Q
/-- Starting the load of the output weights. -/
theorem wp_Ld4 (c : Dev nD) (Q : PUnit → sProp 𝕄) :
    CpPre m K c (semL 4) main_arg4 cc0_scratch4 (woC m c) ⊢ iprop((CpPost c (semL 4) -∗ Q ⟨⟩) -∗ WP c pLd4 Q) :=
  cp_whole m K c (semL 4) (Memref.whole main_arg4) mWo (Memref.isWhole_whole _).wordExact (Memref.isWhole_whole _).wordExact ⟨Or.inl rfl, trivial⟩
    (amt_L 4).symm (woC m c) (woC m c) (View.set_whole _) (View.set_whole _) (fun fd => View.write_whole_univ cc0_scratch4 fd (woC m c)) (pay_L m c true 4).symm Q
/-- Starting the store of the result. -/
theorem wp_Out (c : Dev nD) (Q : PUnit → sProp 𝕄) :
    CpPre m K c semO cc0_scratch5 main_v19 (A2 m c) ⊢ iprop((CpPost c semO -∗ Q ⟨⟩) -∗ WP c pOut Q) :=
  cp_whole m K c semO mAcc (Memref.whole main_v19) (Memref.isWhole_whole _).wordExact (Memref.isWhole_whole _).wordExact ⟨Or.inl rfl, trivial⟩
    amt_O.symm (A2 m c) (A2 m c) (View.set_whole _) (View.set_whole _) (fun fd => View.write_whole_univ main_v19 fd (A2 m c)) (pay_O m c true).symm Q

/-- A load's wait is admitted at any stage: its cell is at level 0. -/
theorem mayL (c : Dev nD) (j : Fin 5) (n : ℕ) : (levAts L lv : sProp 𝕄) ⊢ MayWait (c : Thread nD τ) (.dma (semL j)) () (debt c n) :=
  mayWait_low c _ n (by have := j.isLt; show (if j.val < 14 then 0 else _) ≤ 1; rw [if_pos (by omega)]; decide)
/-- Waiting for the load of the input. -/
theorem wp_Lw0 (c : Dev nD) (n : ℕ) (Q : PUnit → sProp 𝕄) :
    LwPre m K c (semL 0) n ⊢ iprop((LwPost c (semL 0) n (locPay m c 0) -∗ Q ⟨⟩) -∗ WP c pLw0 Q) := by
  have h := wait_gen m K c (semL 0) n (Memref.whole main_arg0) mX (Memref.isWhole_whole _).wordExact (Memref.isWhole_whole _).wordExact
    (amt_L 0).symm (mayL c 0 n) Q
  rw [pay_L] at h; exact h
/-- Waiting for the load of the query weights. -/
theorem wp_Lw1 (c : Dev nD) (n : ℕ) (Q : PUnit → sProp 𝕄) :
    LwPre m K c (semL 1) n ⊢ iprop((LwPost c (semL 1) n (locPay m c 1) -∗ Q ⟨⟩) -∗ WP c pLw1 Q) := by
  have h := wait_gen m K c (semL 1) n (Memref.whole main_arg1) mWq (Memref.isWhole_whole _).wordExact (Memref.isWhole_whole _).wordExact
    (amt_L 1).symm (mayL c 1 n) Q
  rw [pay_L] at h; exact h
/-- Waiting for the load of the keys. -/
theorem wp_Lw2 (c : Dev nD) (n : ℕ) (Q : PUnit → sProp 𝕄) :
    LwPre m K c (semL 2) n ⊢ iprop((LwPost c (semL 2) n (locPay m c 2) -∗ Q ⟨⟩) -∗ WP c pLw2 Q) := by
  have h := wait_gen m K c (semL 2) n (Memref.whole main_v11) mK (Memref.isWhole_whole _).wordExact (Memref.isWhole_whole _).wordExact
    (amt_L 2).symm (mayL c 2 n) Q
  rw [pay_L] at h; exact h
/-- Waiting for the load of the values. -/
theorem wp_Lw3 (c : Dev nD) (n : ℕ) (Q : PUnit → sProp 𝕄) :
    LwPre m K c (semL 3) n ⊢ iprop((LwPost c (semL 3) n (locPay m c 3) -∗ Q ⟨⟩) -∗ WP c pLw3 Q) := by
  have h := wait_gen m K c (semL 3) n (Memref.whole main_v18) mV (Memref.isWhole_whole _).wordExact (Memref.isWhole_whole _).wordExact
    (amt_L 3).symm (mayL c 3 n) Q
  rw [pay_L] at h; exact h
/-- Waiting for the load of the output weights. -/
theorem wp_Lw4 (c : Dev nD) (n : ℕ) (Q : PUnit → sProp 𝕄) :
    LwPre m K c (semL 4) n ⊢ iprop((LwPost c (semL 4) n (locPay m c 4) -∗ Q ⟨⟩) -∗ WP c pLw4 Q) := by
  have h := wait_gen m K c (semL 4) n (Memref.whole main_arg4) mWo (Memref.isWhole_whole _).wordExact (Memref.isWhole_whole _).wordExact
    (amt_L 4).symm (mayL c 4 n) Q
  rw [pay_L] at h; exact h
/-- Waiting for the store of the result. -/
theorem wp_Ow (c : Dev nD) (n : ℕ) (Q : PUnit → sProp 𝕄) :
    LwPre m K c semO n ⊢ iprop((LwPost c semO n (locPay m c 5) -∗ Q ⟨⟩) -∗ WP c pOw Q) := by
  have h := wait_gen m K c semO n mAcc (Memref.whole main_v19) (Memref.isWhole_whole _).wordExact (Memref.isWhole_whole _).wordExact
    amt_O.symm (mayWait_low c _ n (show (0 : ℕ) ≤ 1 from Nat.zero_le 1)) Q
  rw [pay_O] at h; exact h

/-! ## Entry -/

/-- A signal to a partner's entry cell. -/
theorem wp_Sig (c : Dev nD) (d : Bool) (q : Dev nD) (hq : par q d = c) (O : CellTallies nD τ sig Unit) (W : Waits sig Unit)
    (Q : PUnit → sProp 𝕄) :
    iprop(Invs m K ∗ owes (c : Thread nD τ) (O + tallyAt (barCell q) () 1) W ∗ dutyTok ER (barCell q) 0 d ∗ barPay (F := F) c d
        ∗ reached ER (barCell q) 0)
      ⊢ iprop((owes (c : Thread nD τ) O W -∗ Q ⟨⟩) -∗ WP c (pSig q) Q) := by
  iintro ⟨#HI, HO, Ht, Hp, Hr⟩ Hk
  ihave #Hi := (inv_bar m K q) $$ HI
  unfold WP pSig semSignalWord
  iapply (Rounds.wp_signal 𝒱₀ ER (Rd m) (c : Thread nD τ) none (dst := (q : Thread nD τ)) (sem := barS) (r := 0) (d := d) (κ := K (barCell q))
      (by rw [duties_bar]; cases d <;> decide) (amount_bar m q d) () O rfl) $$ [HO Ht Hp Hr]
  · isplitr; · iexact Hi
    isplitl [HO]; · iexact HO
    isplitl [Ht]; · iexact Ht
    isplitl [Hp]; · rw [payload_bar, hq]; iexact Hp
    iexact Hr
  iintro HO
  iapply (wp_done c ⟨⟩ Q)
  iapply Hk
  iexact HO

/-- The entry wait. -/
theorem wp_Bar (c : Dev nD) (Q : PUnit → sProp 𝕄) :
    iprop(Invs m K ∗ levAts L lv ∗ cred (tallyAt (barCell c) () 2) ∗ Ow c 0 ∗ atPos ER (barCell c) 0 ∅ 0)
      ⊢ iprop(((Ow c 0 ∗ semVal (barCell c) 0 ∗ barPay (F := F) (pa c) true ∗ barPay (F := F) (pb c) false) -∗ Q ⟨⟩)
        -∗ WP c pBar Q) := by
  unfold Ow
  iintro ⟨#HI, #Hlev, Hc, ⟨%W, HO⟩, Hat⟩ Hk
  ihave #Hi := (inv_bar m K c) $$ HI
  unfold WP pBar semWaitWord
  iapply (Rounds.wp_wait_rest_token 𝒱₀ ER (Rd m) (c : Thread nD τ) none (κ := K (barCell c))
      (wpE_semWait_eq 𝒱₀ (c : Thread nD τ) none Set.univ) (Set.mem_univ _) () (O := debt c 0) (W := W) (R := 0) (m := 0) (T := ∅)
      ((Nat.zero_add 2).trans (expect_bar m c).symm)) $$ [Hc HO Hat]
  · isplitr; · iexact Hi
    isplitl [Hc]; · iexact Hc
    isplitl [HO]; · iexact HO
    isplitr; · iapply (mayWait_low c (.reg barS) 0 (le_refl 1)); iexact Hlev
    iexact Hat
  iintro ⟨HO, Hat, -, Hpay⟩
  ihave Hp := (Entails.of_eq (rest_bar m c)) $$ Hpay
  imod (close m K (barCell c)) $$ [Hat] with Hv
  · isplitr; · iexact Hi
    iexact Hat
  iapply (wp_done c ⟨⟩ Q)
  iapply Hk
  isplitl [HO]; · iexists _; iexact HO
  isplitl [Hv]; · iexact Hv
  iexact Hp

end Cert.KernelIdeal.Attn
end
-- ==== Proof.Run.lean ====
module

public import proofs.«01_k».proof.Proof.Rules2
public import Idealize.ShloMosaic.Lib.Pipeline.Value

/-! The body's phases on one device: a batch, a tile with its two copies, a first exchange, a second exchange. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## What is stored is what the tables say -/

/-- An index read through a chunk lies in that chunk. -/
theorem getC_chunk (k : Fin 8) (j : S1x64x512.Idx) : chunk ((rC k).emb j) = k := by
  rw [← mem_setC, ← accC5]; exact View.emb_mem_set (mAcc.access (rC k)) j

/-- The sum of two buffers, read at a chunk. -/
theorem sumP_get (k : Fin 8) (a : Vec F S2x256x512 .f32) (r : Vec F S2x256x512 .bf16) :
    sumP (getC k a) (getC k r) = getC k (fun i => FloatOps.addf (a i) (FloatOps.extf .f32 bitsLt_bf16_f32 (r i))) := by
  have e1 : ∀ j, shapeCast S1x64x512 (shapeCast S64x512 (getC k a) shapeCasts_S1x64x512_S64x512) shapeCasts_S64x512_S1x64x512 j = getC k a j :=
    congrFun (shapeCast_shapeCast _ _ _)
  have e2 : ∀ j, shapeCast S1x64x512 (shapeCast S64x512 (getC k r) shapeCasts_S1x64x512_S64x512) shapeCasts_S64x512_S1x64x512 j = getC k r j :=
    congrFun (shapeCast_shapeCast _ _ _)
  funext j
  exact congrArg₂ (fun u v => FloatOps.addf u (FloatOps.extf .f32 bitsLt_bf16_f32 v)) (e1 j) (e2 j)

/-- The partial product, read at a half. -/
theorem getH_A0 (c : Dev nD) (h : Fin 4) : getH h (A0 m c)
    = shapeCast S1x128x512 (tileC m c ⟨h.val / 2, by omega⟩ ⟨h.val % 2, by omega⟩) shapeCasts_S128x512_S1x128x512 := by
  funext j
  have h1 : (j 1).val < 128 := (j 1).isLt
  have hh := h.isLt
  have j0 : (j 0).val = 0 := by have : (j 0).val < 1 := (j 0).isLt; omega
  have eb : bOf ((rH h).emb j) = ⟨h.val / 2, by omega⟩ := Fin.ext (by
    show h.val / 2 + 1 * (j 0).val = h.val / 2; omega)
  have eh : hOf ((rH h).emb j) = ⟨h.val % 2, by omega⟩ := Fin.ext (by
    show (128 * (h.val % 2) + 1 * (j 1).val) / 128 = h.val % 2; omega)
  have et : inTile ((rH h).emb j) = (fun a => j (Fin.succ a) : S128x512.Idx) := funext fun a => by
    revert a; refine Fin.forall_fin_two.mpr ⟨Fin.ext ?_, Fin.ext ?_⟩
    · show (128 * (h.val % 2) + 1 * (j 1).val) % 128 = (j 1).val; omega
    · show 0 + 1 * (j 2).val = (j 2).val; omega
  show tileC m c (bOf ((rH h).emb j)) (hOf ((rH h).emb j)) (inTile ((rH h).emb j)) = _
  rw [eb, eh, et]
  exact (shapeCast_addUnit_apply ![128, 512] _ shapeCasts_S128x512_S1x128x512 j).symm

/-- One batch's heads, from the loaded buffers. -/
theorem run_bat (c : Dev nD) (b : Fin 2) (Q : _ → sProp 𝕄) :
    iprop((pt c cc0_scratch0 Finset.univ (xC m c) ∗ pt c cc0_scratch2 Finset.univ (kC m c) ∗ pt c cc0_scratch3 Finset.univ (vC m c))
        ∗ ((pt c cc0_scratch0 Finset.univ (xC m c) ∗ pt c cc0_scratch2 Finset.univ (kC m c) ∗ pt c cc0_scratch3 Finset.univ (vC m c))
          -∗ Q (ctxC m c b)))
      ⊢ WP c (bat b (wqC m c)) Q := by
  unfold WP bat
  simp only [wp_bind]
  iintro ⟨⟨Hx, Hk, Hv⟩, HQ⟩
  iapply (wp_rdX c b (xC m c) _) $$ Hx; iintro Hx
  iapply (wp_rdK c b (kC m c) _) $$ Hk; iintro Hk
  iapply (wp_rdV c b (vC m c) _) $$ Hv; iintro Hv
  iapply (wp_rdK c b (kC m c) _) $$ Hk; iintro Hk
  iapply (wp_rdV c b (vC m c) _) $$ Hv; iintro Hv
  iapply (wp_rdK c b (kC m c) _) $$ Hk; iintro Hk
  iapply (wp_rdV c b (vC m c) _) $$ Hv; iintro Hv
  iapply (wp_rdK c b (kC m c) _) $$ Hk; iintro Hk
  iapply (wp_rdV c b (vC m c) _) $$ Hv; iintro Hv
  iapply (wp_done c (ctxC m c b) Q)
  iapply HQ
  isplitl [Hx]; · iexact Hx
  isplitl [Hk] <;> iassumption

/-! ## What a chunk's exchanges hold -/

/-- First exchange: this device's rights on its two cells and on the partner's. -/
def TokA (c : Dev nD) (k : Fin 8) : sProp 𝕄 :=
  iprop(dutyTok ER (cSA c k) 0 true ∗ reached ER (cSA c k) 0 ∗ dutyTok ER (cRA (p1 c k) k) 0 true
    ∗ atPos ER (cSA c k) 0 ∅ 0 ∗ atPos ER (cRA c k) 0 ∅ 0 ∗ cred (tallyAt (cRA c k) () N))
def TokB (c : Dev nD) (k : Fin 8) : sProp 𝕄 :=
  iprop(dutyTok ER (cSB c k) 0 true ∗ reached ER (cSB c k) 0 ∗ dutyTok ER (cRB (p2 c k) k) 0 true
    ∗ atPos ER (cSB c k) 0 ∅ 0 ∗ atPos ER (cRB c k) 0 ∅ 0 ∗ cred (tallyAt (cRB c k) () N))
/-- The partner's landing chunk, and that its cell's round is open. -/
def LandA (c : Dev nD) (k : Fin 8) : sProp 𝕄 := iprop(ptE (F := F) (p1 c k) cc0_scratch7 (setC k) ∗ reached ER (cRA (p1 c k) k) 0)
def LandB (c : Dev nD) (k : Fin 8) : sProp 𝕄 := iprop(ptE (F := F) (p2 c k) cc0_scratch9 (setC k) ∗ reached ER (cRB (p2 c k) k) 0)
/-- The first exchange begun: the credits to wait for it, and the accumulator's chunk. -/
def MidA (c : Dev nD) (k : Fin 8) : sProp 𝕄 :=
  iprop(cred (tallyAt (cSA c k) () N) ∗ atPos ER (cSA c k) 0 ∅ 0 ∗ atPos ER (cRA c k) 0 ∅ 0 ∗ cred (tallyAt (cRA c k) () N)
    ∗ pt c cc0_scratch5 (setC k) (A0 m c))
def MidB (c : Dev nD) (k : Fin 8) : sProp 𝕄 :=
  iprop(cred (tallyAt (cSB c k) () N) ∗ atPos ER (cSB c k) 0 ∅ 0 ∗ atPos ER (cRB c k) 0 ∅ 0 ∗ cred (tallyAt (cRB c k) () N)
    ∗ pt c cc0_scratch5 (setC k) (A1 m c))
/-- The exchange done: both counters at zero, both buffers' chunks back. -/
def EndA (c : Dev nD) (k : Fin 8) : sProp 𝕄 :=
  iprop((semVal (cSA c k) 0 ∗ semVal (cRA c k) 0) ∗ ptE (F := F) c cc0_scratch6 (setC k) ∗ ptE (F := F) c cc0_scratch7 (setC k))
def EndB (c : Dev nD) (k : Fin 8) : sProp 𝕄 :=
  iprop((semVal (cSB c k) 0 ∗ semVal (cRB c k) 0) ∗ ptE (F := F) c cc0_scratch8 (setC k) ∗ ptE (F := F) c cc0_scratch9 (setC k)
    ∗ pt c cc0_scratch5 (setC k) (A2 m c))

/-- One tile: stored, narrowed and stored, its two chunks sent. -/
theorem run_tile (c : Dev nD) (h : Fin 4) (k k' : Fin 8) (hk : k = lo h) (hk' : k' = hi h) (Q : PUnit → sProp 𝕄) :
    iprop((Invs m K ∗ Ow c k.val ∗ ptE (F := F) c cc0_scratch5 (setH h) ∗ ptE (F := F) c cc0_scratch6 (setH h)
        ∗ (TokA c k ∗ LandA c k) ∗ (TokA c k' ∗ LandA c k')) ∗ ((Ow c (k'.val + 1) ∗ MidA m c k ∗ MidA m c k') -∗ Q ⟨⟩))
      ⊢ WP c (tileP (p1 c k) (p1 c k') h k k' (tileC m c ⟨h.val / 2, by omega⟩ ⟨h.val % 2, by omega⟩)) Q := by
  unfold WP tileP TokA LandA
  simp only [wp_bind]
  iintro ⟨⟨#HI, HO, ⟨%f5, H5⟩, ⟨%f6, H6⟩, ⟨⟨Ht1, Hr1, Ht2, Ha1, Ha2, Hc⟩, Hd, Hr2⟩, ⟨Ht1', Hr1', Ht2', Ha1', Ha2', Hc'⟩, Hd', Hr2'⟩, HQ⟩
  iapply (wp_rdAccH c h _ _) $$ H5; iintro H5
  iapply (wp_stAccH c h _ (A0 m c) _ (getH_A0 m c h) _) $$ H5; iintro H5
  iapply (wp_rdSAH c h _ _) $$ H6; iintro H6
  iapply (wp_stSAH c h _ (SA m c) _ (by
    funext j
    exact congrArg (FloatOps.truncf .bf16 bitsLt_bf16_f32) (congrFun (getH_A0 m c h) j)) _) $$ H6; iintro H6
  have hdj : Disjoint (setC k) (setC k') := setC_disj (by rw [hk, hk']; exact lo_ne_hi h)
  rw [setH_eq, ← hk, ← hk']
  ihave H5 := (pointsTo_union (f := A0 m c) hdj).1 $$ H5
  ihave H6 := (pointsTo_union (f := SA m c) hdj).1 $$ H6
  icases H5 with ⟨H5, H5'⟩
  icases H6 with ⟨H6, H6'⟩
  iapply (wp_sendA m K c k _) $$ [H6 HO Ht1 Hr1 Ht2 Hd Hr2]
  · isplitr; · iexact HI
    isplitl [H6]; · iexact H6
    isplitl [Hd]; · iexact Hd
    isplitl [HO]; · iexact HO
    isplitl [Ht1]; · iexact Ht1
    isplitl [Hr1]; · iexact Hr1
    isplitl [Ht2] <;> iassumption
  iintro ⟨Hc1, HO⟩
  rw [show k.val + 1 = k'.val by rw [hk, hk']; rfl]
  iapply (wp_sendA m K c k' _) $$ [H6' HO Ht1' Hr1' Ht2' Hd' Hr2']
  · isplitr; · iexact HI
    isplitl [H6']; · iexact H6'
    isplitl [Hd']; · iexact Hd'
    isplitl [HO]; · iexact HO
    isplitl [Ht1']; · iexact Ht1'
    isplitl [Hr1']; · iexact Hr1'
    isplitl [Ht2'] <;> iassumption
  iintro ⟨Hc1', HO⟩
  iapply HQ
  unfold MidA
  isplitl [HO]; · iexact HO
  isplitl [Hc1 Ha1 Ha2 Hc H5]
  · isplitl [Hc1]; · iexact Hc1
    isplitl [Ha1]; · iexact Ha1
    isplitl [Ha2]; · iexact Ha2
    isplitl [Hc] <;> iassumption
  isplitl [Hc1']; · iexact Hc1'
  isplitl [Ha1']; · iexact Ha1'
  isplitl [Ha2']; · iexact Ha2'
  isplitl [Hc'] <;> iassumption

/-- One chunk's first exchange completed, its second begun. -/
theorem run_phA (c : Dev nD) (k : Fin 8) (Q : PUnit → sProp 𝕄) :
    iprop((Invs m K ∗ levAts L lv ∗ Ow c (8 + k.val) ∗ MidA m c k ∗ ptE (F := F) c cc0_scratch8 (setC k) ∗ TokB c k ∗ LandB c k)
        ∗ ((Ow c (8 + k.val + 1) ∗ EndA (F := F) c k ∗ MidB m c k) -∗ Q ⟨⟩))
      ⊢ WP c (phA (p2 c k) k) Q := by
  unfold WP phA TokB LandB MidA
  simp only [wp_bind]
  iintro ⟨⟨#HI, #Hlev, HO, ⟨Hc1, Ha1, Ha2, Hc2, H5⟩, ⟨%f8, H8⟩, ⟨Ht1, Hr1, Ht2, Hb1, Hb2, Hc⟩, Hd, Hr2⟩, HQ⟩
  iapply (wp_wtSA m K c k (8 + k.val) _) $$ [HO Hc1 Ha1]
  · isplitr; · iexact HI
    isplitr; · iexact Hlev
    isplitl [Hc1]; · iexact Hc1
    isplitl [HO] <;> iassumption
  iintro ⟨HO, Hv1, H6⟩
  iapply (wp_wtRA m K c k (8 + k.val) (by omega) _) $$ [HO Hc2 Ha2]
  · isplitr; · iexact HI
    isplitr; · iexact Hlev
    isplitl [Hc2]; · iexact Hc2
    isplitl [HO] <;> iassumption
  iintro ⟨HO, Hv2, H7⟩
  iapply (wp_rdAcc c k _ _) $$ H5; iintro H5
  iapply (wp_rdRA c k _ _) $$ H7; iintro H7
  iapply (wp_rdAcc c k _ _) $$ H5; iintro H5
  have hA1 : getC k (A1 m c) = sumP (getC k (A0 m c)) (getC k (SA m (p1 c k))) := by
    rw [sumP_get]; funext j
    show FloatOps.addf (A0 m c ((rC k).emb j)) (FloatOps.extf .f32 bitsLt_bf16_f32 (SA m (p1 c (chunk ((rC k).emb j))) ((rC k).emb j))) = _
    rw [getC_chunk]; rfl
  iapply (wp_stAcc c k _ (A1 m c) _ hA1 _) $$ H5; iintro H5
  iapply (wp_rdSB c k _ _) $$ H8; iintro H8
  iapply (wp_stSB c k _ (SB m c) _ (by
    funext j
    exact congrArg (FloatOps.truncf .bf16 bitsLt_bf16_f32) (congrFun hA1 j)) _) $$ H8; iintro H8
  iapply (wp_sendB m K c k _) $$ [H8 HO Ht1 Hr1 Ht2 Hd Hr2]
  · isplitr; · iexact HI
    isplitl [H8]; · iexact H8
    isplitl [Hd]; · iexact Hd
    isplitl [HO]; · iexact HO
    isplitl [Ht1]; · iexact Ht1
    isplitl [Hr1]; · iexact Hr1
    isplitl [Ht2] <;> iassumption
  iintro ⟨Hc1, HO⟩
  iapply HQ
  unfold EndA MidB
  isplitl [HO]; · iexact HO
  isplitl [Hv1 Hv2 H6 H7]
  · isplitl [Hv1 Hv2]; · isplitl [Hv1] <;> iassumption
    isplitl [H6]
    · iexists _; iexact H6
    · iexists _; iexact H7
  isplitl [Hc1]; · iexact Hc1
  isplitl [Hb1]; · iexact Hb1
  isplitl [Hb2]; · iexact Hb2
  isplitl [Hc] <;> iassumption

/-- One chunk's second exchange completed. -/
theorem run_phB (c : Dev nD) (k : Fin 8) (Q : PUnit → sProp 𝕄) :
    iprop((Invs m K ∗ levAts L lv ∗ Ow c 16 ∗ MidB m c k) ∗ ((Ow c 16 ∗ EndB m c k) -∗ Q ⟨⟩)) ⊢ WP c (phB k) Q := by
  unfold WP phB MidB
  simp only [wp_bind]
  iintro ⟨⟨#HI, #Hlev, HO, Hc1, Ha1, Ha2, Hc2, H5⟩, HQ⟩
  iapply (wp_wtSB m K c k 16 _) $$ [HO Hc1 Ha1]
  · isplitr; · iexact HI
    isplitr; · iexact Hlev
    isplitl [Hc1]; · iexact Hc1
    isplitl [HO] <;> iassumption
  iintro ⟨HO, Hv1, H8⟩
  iapply (wp_wtRB m K c k _) $$ [HO Hc2 Ha2]
  · isplitr; · iexact HI
    isplitr; · iexact Hlev
    isplitl [Hc2]; · iexact Hc2
    isplitl [HO] <;> iassumption
  iintro ⟨HO, Hv2, H9⟩
  iapply (wp_rdAcc c k _ _) $$ H5; iintro H5
  iapply (wp_rdRB c k _ _) $$ H9; iintro H9
  iapply (wp_rdAcc c k _ _) $$ H5; iintro H5
  iapply (wp_stAcc c k _ (A2 m c) _ (by
    rw [sumP_get]; funext j
    show FloatOps.addf (A1 m c ((rC k).emb j)) (FloatOps.extf .f32 bitsLt_bf16_f32 (SB m (p2 c (chunk ((rC k).emb j))) ((rC k).emb j))) = _
    rw [getC_chunk]; rfl) _) $$ H5; iintro H5
  iapply HQ
  unfold EndB
  isplitl [HO]; · iexact HO
  isplitl [Hv1 Hv2]; · isplitl [Hv1] <;> iassumption
  isplitl [H8]; · iexists _; iexact H8
  isplitl [H9]; · iexists _; iexact H9
  iexact H5

end Cert.KernelIdeal.Attn
end
-- ==== Proof.Whole.lean ====
module

public import proofs.«01_k».proof.Proof.Run
public import Idealize.ShloMosaic.Lib.Ring

/-! The whole body on one device: the buffers cut into chunks, the phases one after the other, the buffers whole again. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## Chains -/

/-- A separating product over one more element. -/
theorem bigSep_succ {n : ℕ} (Φ : Fin (n + 1) → sProp 𝕄) :
    bigSep Finset.univ Φ = iprop(Φ 0 ∗ bigSep Finset.univ (fun k : Fin n => Φ k.succ)) := by
  rw [Fin.univ_succ, Finset.cons_eq_insert, bigSep_insert (by simp), bigSep_map]; rfl

/-- Steps that each turn `A k` into `B k`, keeping a state by number. -/
theorem run_chain (c : Dev nD) (n : ℕ) (f : Fin n → PP F PUnit) (I : ℕ → sProp 𝕄) (A B : Fin n → sProp 𝕄)
    (h : ∀ (k : Fin n) (Q : PUnit → sProp 𝕄), iprop((I k.val ∗ A k) ∗ ((I (k.val + 1) ∗ B k) -∗ Q ⟨⟩)) ⊢ WP c (f k) Q)
    (Q : PUnit → sProp 𝕄) :
    iprop((I 0 ∗ bigSep Finset.univ A) ∗ ((I n ∗ bigSep Finset.univ B) -∗ Q ⟨⟩)) ⊢ WP c (chain n f) Q := by
  induction n generalizing I Q with
  | zero =>
    unfold chain
    rw [Finset.univ_eq_empty, bigSep_empty, bigSep_empty]
    iintro ⟨⟨HI, -⟩, HQ⟩
    iapply (wp_done c ⟨⟩ Q)
    iapply HQ
    isplitl [HI]; · iexact HI
    iempintro
  | succ n ih =>
    unfold chain WP
    rw [wp_bind, bigSep_succ A, bigSep_succ B]
    iintro ⟨⟨HI, HA, HAs⟩, HQ⟩
    have h0 : ∀ Q : PUnit → sProp 𝕄, iprop((I 0 ∗ A 0) ∗ ((I (0 + 1) ∗ B 0) -∗ Q ⟨⟩)) ⊢ WP c (f 0) Q := fun Q => h 0 Q
    iapply (h0 _)
    isplitl [HI HA]
    · isplitl [HI]; · iexact HI
      iexact HA
    iintro ⟨HI, HB⟩
    iapply (ih (fun k => f k.succ) (fun j => I (j + 1)) (fun k => A k.succ) (fun k => B k.succ) (fun k Q => h k.succ Q) Q)
    isplitl [HI HAs]
    · isplitl [HI]; · iexact HI
      iexact HAs
    iintro ⟨HI, HBs⟩
    iapply HQ
    isplitl [HI]; · iexact HI
    isplitl [HB] <;> iassumption

/-! ## Buffers in chunks -/

/-- The chunks cover the buffer. -/
theorem coverC : Finset.univ.biUnion setC = Finset.univ := by
  ext i; simp only [Finset.mem_biUnion, Finset.mem_univ, true_and, iff_true]; exact ⟨chunk i, (mem_setC _ _).mpr rfl⟩
/-- The halves cover the buffer. -/
theorem coverH : Finset.univ.biUnion setH = Finset.univ := by
  ext i; simp only [Finset.mem_biUnion, Finset.mem_univ, true_and, iff_true]; exact ⟨half i, (mem_setH _ _).mpr rfl⟩

/-- Everything in `bigSep` weakened to contents not chosen. -/
theorem forget {ι : Type} [Fintype ι] (c : Dev nD) (b : Ref sig .tc) (I : ι → Finset b.ty.Idx) (f : b.ty.Contents (Elt F)) :
    (bigSep Finset.univ (fun k => pt c b (I k) f) : sProp 𝕄) ⊢ bigSep Finset.univ (fun k => ptE (F := F) c b (I k)) :=
  bigSep_mono fun k _ => by show (_ : sProp 𝕄) ⊢ _; iintro H; iexists f; iexact H

section Split
variable (c : Dev nD)
/-- The landing buffers and the second exchange's source, all chunks at contents not chosen. -/
theorem split7 : ptE (F := F) c cc0_scratch7 Finset.univ ⊢ bigSep Finset.univ (fun k => ptE (F := F) c cc0_scratch7 (setC k)) := by
  iintro ⟨%f, H⟩
  iapply (forget c cc0_scratch7 setC f)
  iapply (Entails.of_eq (Ring.pointsTo_blocks (ℓ := (c : Thread nD τ).loc cc0_scratch7) setC (fun _ _ => setC_disj) coverC f)) $$ H
/-- The second send buffer, cut into chunks. -/
theorem split8 : ptE (F := F) c cc0_scratch8 Finset.univ ⊢ bigSep Finset.univ (fun k => ptE (F := F) c cc0_scratch8 (setC k)) := by
  iintro ⟨%f, H⟩
  iapply (forget c cc0_scratch8 setC f)
  iapply (Entails.of_eq (Ring.pointsTo_blocks (ℓ := (c : Thread nD τ).loc cc0_scratch8) setC (fun _ _ => setC_disj) coverC f)) $$ H
/-- The second receive buffer, cut into chunks. -/
theorem split9 : ptE (F := F) c cc0_scratch9 Finset.univ ⊢ bigSep Finset.univ (fun k => ptE (F := F) c cc0_scratch9 (setC k)) := by
  iintro ⟨%f, H⟩
  iapply (forget c cc0_scratch9 setC f)
  iapply (Entails.of_eq (Ring.pointsTo_blocks (ℓ := (c : Thread nD τ).loc cc0_scratch9) setC (fun _ _ => setC_disj) coverC f)) $$ H
/-- The accumulator and the first exchange's source, all halves. -/
theorem split5 : ptE (F := F) c cc0_scratch5 Finset.univ ⊢ bigSep Finset.univ (fun h => ptE (F := F) c cc0_scratch5 (setH h)) := by
  iintro ⟨%f, H⟩
  iapply (forget c cc0_scratch5 setH f)
  iapply (Entails.of_eq (Ring.pointsTo_blocks (ℓ := (c : Thread nD τ).loc cc0_scratch5) setH (fun _ _ => setH_disj) coverH f)) $$ H
/-- The first send buffer, cut into halves. -/
theorem split6 : ptE (F := F) c cc0_scratch6 Finset.univ ⊢ bigSep Finset.univ (fun h => ptE (F := F) c cc0_scratch6 (setH h)) := by
  iintro ⟨%f, H⟩
  iapply (forget c cc0_scratch6 setH f)
  iapply (Entails.of_eq (Ring.pointsTo_blocks (ℓ := (c : Thread nD τ).loc cc0_scratch6) setH (fun _ _ => setH_disj) coverH f)) $$ H
/-- The chunks whole again. -/
theorem join5 (f) : (bigSep Finset.univ (fun k => pt c cc0_scratch5 (setC k) f) : sProp 𝕄) ⊢ pt c cc0_scratch5 Finset.univ f :=
  Entails.of_eq (Ring.pointsTo_blocks (ℓ := (c : Thread nD τ).loc cc0_scratch5) setC (fun _ _ => setC_disj) coverC f).symm
/-- The first send buffer, put together from its chunks. -/
theorem join6 (m : (ℓ : Loc nD τ sig) → Buf (Elt F) ℓ) : bigSep Finset.univ (fun k => ptE (F := F) c cc0_scratch6 (setC k)) ⊢ ptE (F := F) c cc0_scratch6 Finset.univ :=
  Ring.pointsTo_blocks_join_exists (ℓ := (c : Thread nD τ).loc cc0_scratch6) setC (fun _ _ => setC_disj) coverC (SA m c)
/-- The first receive buffer, put together. -/
theorem join7 (m : (ℓ : Loc nD τ sig) → Buf (Elt F) ℓ) : bigSep Finset.univ (fun k => ptE (F := F) c cc0_scratch7 (setC k)) ⊢ ptE (F := F) c cc0_scratch7 Finset.univ :=
  Ring.pointsTo_blocks_join_exists (ℓ := (c : Thread nD τ).loc cc0_scratch7) setC (fun _ _ => setC_disj) coverC (SA m c)
/-- The second send buffer, put together. -/
theorem join8 (m : (ℓ : Loc nD τ sig) → Buf (Elt F) ℓ) : bigSep Finset.univ (fun k => ptE (F := F) c cc0_scratch8 (setC k)) ⊢ ptE (F := F) c cc0_scratch8 Finset.univ :=
  Ring.pointsTo_blocks_join_exists (ℓ := (c : Thread nD τ).loc cc0_scratch8) setC (fun _ _ => setC_disj) coverC (SA m c)
/-- The second receive buffer, put together. -/
theorem join9 (m : (ℓ : Loc nD τ sig) → Buf (Elt F) ℓ) : bigSep Finset.univ (fun k => ptE (F := F) c cc0_scratch9 (setC k)) ⊢ ptE (F := F) c cc0_scratch9 Finset.univ :=
  Ring.pointsTo_blocks_join_exists (ℓ := (c : Thread nD τ).loc cc0_scratch9) setC (fun _ _ => setC_disj) coverC (SA m c)
end Split

/-! ## Entry: the landing chunks handed over and received -/

/-- The device's landing chunks, with its landing cells open, make what it hands both partners. -/
theorem hand (c : Dev nD) : bigSep Finset.univ (fun k : Fin 8 => iprop((ptE (F := F) c cc0_scratch7 (setC k) ∗ ptE (F := F) c cc0_scratch9 (setC k))
      ∗ reached ER (cRA c k) 0 ∗ reached ER (cRB c k) 0))
    ⊢ iprop(barPay (F := F) c true ∗ barPay (F := F) c false) := by
  unfold barPay
  rw [← bigSep_sep']
  refine bigSep_mono fun k _ => ?_
  show (_ : sProp 𝕄) ⊢ _
  unfold barPay1
  by_cases h : even k = true
  · rw [if_pos h, if_neg (by rw [h]; decide)]
    iintro ⟨⟨H7, H9⟩, Hr, Hr'⟩
    isplitl [H7 Hr]; · isplitl [H7] <;> iassumption
    isplitl [H9] <;> iassumption
  · rw [if_neg h, if_pos (by simpa using h)]
    iintro ⟨⟨H7, H9⟩, Hr, Hr'⟩
    isplitl [H9 Hr']; · isplitl [H9] <;> iassumption
    isplitl [H7] <;> iassumption

/-- What both partners hand the device is where each of its copies lands. -/
theorem take (c : Dev nD) : iprop(barPay (F := F) (pa c) true ∗ barPay (F := F) (pb c) false)
    ⊢ bigSep Finset.univ (fun k : Fin 8 => iprop(LandA (F := F) c k ∗ LandB (F := F) c k)) := by
  unfold barPay
  rw [← bigSep_sep']
  refine bigSep_mono fun k _ => ?_
  show (_ : sProp 𝕄) ⊢ _
  unfold barPay1 LandA LandB p1 p2
  by_cases h : even k = true
  · rw [if_pos h, if_neg (by rw [h]; decide), if_pos h, if_pos h]
  · rw [if_neg h, if_pos (by simpa using h), if_neg h, if_neg h]
    iintro ⟨H1, H2⟩
    isplitl [H2] <;> iassumption

/-! ## The loads and the entry barrier -/

/-- A local copy's cell: its duty, that it has begun, the device's position on it. -/
abbrev Loc0 (c : Dev nD) (s : DmaSem sig) : sProp 𝕄 :=
  iprop(dutyTok ER (dc (c, s)) 0 true ∗ reached ER (dc (c, s)) 0 ∗ atPos ER (dc (c, s)) 0 ∅ 0)
/-- A local copy's two buffers and its cell. -/
abbrev LdIn (c : Dev nD) (s : DmaSem sig) (b b' : Ref sig .tc) (f : b.ty.Contents (Elt F)) : sProp 𝕄 :=
  iprop(pt c b Finset.univ f ∗ ptE (F := F) c b' Finset.univ ∗ Loc0 (F := F) c s)
/-- The five loads, to begin. -/
abbrev Loads (c : Dev nD) : sProp 𝕄 :=
  iprop(LdIn c (semL 0) main_arg0 cc0_scratch0 (xC m c) ∗ LdIn c (semL 1) main_arg1 cc0_scratch1 (wqC m c)
    ∗ LdIn c (semL 2) main_v11 cc0_scratch2 (kC m c) ∗ LdIn c (semL 3) main_v18 cc0_scratch3 (vC m c)
    ∗ LdIn c (semL 4) main_arg4 cc0_scratch4 (woC m c))
/-- A local copy done: its cell at rest and its two buffers. -/
abbrev LdOut (c : Dev nD) (s : DmaSem sig) (j : ℕ) : sProp 𝕄 := iprop(semVal (dc (c, s)) 0 ∗ locPay m c j)
/-- The five loads done. -/
abbrev Loaded (c : Dev nD) : sProp 𝕄 :=
  iprop(LdOut m c (semL 0) 0 ∗ LdOut m c (semL 1) 1 ∗ LdOut m c (semL 2) 2 ∗ LdOut m c (semL 3) 3 ∗ LdOut m c (semL 4) 4)
/-- The same, the buffers written out. -/
abbrev Loaded2 (c : Dev nD) : sProp 𝕄 :=
  iprop((semVal (dc (c, semL 0)) 0 ∗ pt c cc0_scratch0 Finset.univ (xC m c) ∗ pt c main_arg0 Finset.univ (xC m c))
    ∗ (semVal (dc (c, semL 1)) 0 ∗ pt c cc0_scratch1 Finset.univ (wqC m c) ∗ pt c main_arg1 Finset.univ (wqC m c))
    ∗ (semVal (dc (c, semL 2)) 0 ∗ pt c cc0_scratch2 Finset.univ (kC m c) ∗ pt c main_v11 Finset.univ (kC m c))
    ∗ (semVal (dc (c, semL 3)) 0 ∗ pt c cc0_scratch3 Finset.univ (vC m c) ∗ pt c main_v18 Finset.univ (vC m c))
    ∗ (semVal (dc (c, semL 4)) 0 ∗ pt c cc0_scratch4 Finset.univ (woC m c) ∗ pt c main_arg4 Finset.univ (woC m c)))
/-- The loaded buffers, in both spellings. -/
theorem loaded_eq (c : Dev nD) : Loaded m c = Loaded2 m c := rfl
/-- The copy out done: its cell at rest, the result and the accumulator at the final contents. -/
abbrev Stored (c : Dev nD) : sProp 𝕄 :=
  iprop(semVal (dc (c, semO)) 0 ∗ pt c main_v19 Finset.univ (A2 m c) ∗ pt c cc0_scratch5 Finset.univ (A2 m c))
/-- The stored result, in both spellings. -/
theorem stored_eq (c : Dev nD) : LdOut m c semO 5 = Stored m c := rfl
/-- The entry cells: both partners' duties, the device's own position and credit. -/
abbrev Entry (c : Dev nD) : sProp 𝕄 :=
  iprop((dutyTok ER (barCell (pa c)) 0 true ∗ reached ER (barCell (pa c)) 0)
    ∗ (dutyTok ER (barCell (pb c)) 0 false ∗ reached ER (barCell (pb c)) 0)
    ∗ atPos ER (barCell c) 0 ∅ 0 ∗ cred (tallyAt (barCell c) () 2))

/-- Both entry signals, in either order. -/
theorem run_sig (c dl dr : Dev nD) (hd : (dl = pa c ∧ dr = pb c) ∨ (dl = pb c ∧ dr = pa c)) (p : PP F PUnit) (Q : PUnit → sProp 𝕄) :
    iprop((Invs m K ∗ (∃ W, owes (c : Thread nD τ) (O₀ c) W)
        ∗ (dutyTok ER (barCell (pa c)) 0 true ∗ reached ER (barCell (pa c)) 0)
        ∗ (dutyTok ER (barCell (pb c)) 0 false ∗ reached ER (barCell (pb c)) 0)
        ∗ barPay (F := F) c true ∗ barPay (F := F) c false) ∗ (Ow c 0 -∗ WP c p Q))
      ⊢ WP c (pSig dl >>= fun _ => pSig dr >>= fun _ => p) Q := by
  unfold WP
  simp only [wp_bind]
  iintro ⟨⟨#HI, ⟨%W, HO⟩, ⟨Hta, Hra⟩, ⟨Htb, Hrb⟩, Hpt, Hpf⟩, HQ⟩
  rcases hd with ⟨rfl, rfl⟩ | ⟨rfl, rfl⟩
  · have e : O₀ c = debt c 0 + tallyAt (barCell (pb c)) () 1 + tallyAt (barCell (pa c)) () 1 := (add_assoc _ _ _).symm
    rw [e]
    iapply (wp_Sig m K c true (pa c) (pa_pa c) _ W _) $$ [HO Hta Hra Hpt]
    · isplitr; · iexact HI
      isplitl [HO]; · iexact HO
      isplitl [Hta]; · iexact Hta
      isplitl [Hpt] <;> iassumption
    iintro HO
    iapply (wp_Sig m K c false (pb c) (pb_pb c) _ W _) $$ [HO Htb Hrb Hpf]
    · isplitr; · iexact HI
      isplitl [HO]; · iexact HO
      isplitl [Htb]; · iexact Htb
      isplitl [Hpf] <;> iassumption
    iintro HO
    iapply HQ
    unfold Ow; iexists W; iexact HO
  · have e : O₀ c = debt c 0 + tallyAt (barCell (pa c)) () 1 + tallyAt (barCell (pb c)) () 1 := by
      rw [add_assoc, add_comm (tallyAt (barCell (pa c)) () 1)]; rfl
    rw [e]
    iapply (wp_Sig m K c false (pb c) (pb_pb c) _ W _) $$ [HO Htb Hrb Hpf]
    · isplitr; · iexact HI
      isplitl [HO]; · iexact HO
      isplitl [Htb]; · iexact Htb
      isplitl [Hpf] <;> iassumption
    iintro HO
    iapply (wp_Sig m K c true (pa c) (pa_pa c) _ W _) $$ [HO Hta Hra Hpt]
    · isplitr; · iexact HI
      isplitl [HO]; · iexact HO
      isplitl [Hta]; · iexact Hta
      isplitl [Hpt] <;> iassumption
    iintro HO
    iapply HQ
    unfold Ow; iexists W; iexact HO

/-- From entry to the loads' end: the device's landing chunks go to its partners, theirs come to it. -/
theorem run_pre (c : Dev nD) (Q : PUnit → sProp 𝕄) :
    iprop((Invs m K ∗ levAts L lv ∗ (∃ W, owes (c : Thread nD τ) (O₀ c) W) ∗ Entry (F := F) c ∗ Loads m c
        ∗ bigSep Finset.univ (fun k : Fin 8 => iprop((ptE (F := F) c cc0_scratch7 (setC k) ∗ ptE (F := F) c cc0_scratch9 (setC k))
            ∗ reached ER (cRA c k) 0 ∗ reached ER (cRB c k) 0)))
        ∗ ((Ow c 0 ∗ semVal (barCell c) 0 ∗ Loaded m c
            ∗ bigSep Finset.univ (fun k : Fin 8 => iprop(LandA (F := F) c k ∗ LandB (F := F) c k))) -∗ Q ⟨⟩))
      ⊢ WP c (pre (sigL c) (sigR c)) Q := by
  unfold WP pre
  simp only [wp_bind]
  iintro ⟨⟨#HI, #Hlev, HO, ⟨Ha, Hb, Hat, Hc⟩, ⟨⟨Hs0, Hd0, Ht0, Hr0, Hp0⟩, ⟨Hs1, Hd1, Ht1, Hr1, Hp1⟩, ⟨Hs2, Hd2, Ht2, Hr2, Hp2⟩, ⟨Hs3, Hd3, Ht3, Hr3, Hp3⟩, ⟨Hs4, Hd4, Ht4, Hr4, Hp4⟩⟩, Hl⟩, HQ⟩
  ihave Hl := (hand c) $$ Hl
  icases Hl with ⟨Hpt, Hpf⟩
  iapply (wp_Ld0 m K c _) $$ [Hs0 Hd0 Ht0 Hr0]
  · isplitr; · iexact HI
    isplitl [Hs0]; · iexact Hs0
    isplitl [Hd0]; · iexact Hd0
    isplitl [Ht0] <;> iassumption
  iintro Hc0
  iapply (wp_Ld1 m K c _) $$ [Hs1 Hd1 Ht1 Hr1]
  · isplitr; · iexact HI
    isplitl [Hs1]; · iexact Hs1
    isplitl [Hd1]; · iexact Hd1
    isplitl [Ht1] <;> iassumption
  iintro Hc1
  iapply (wp_Ld2 m K c _) $$ [Hs2 Hd2 Ht2 Hr2]
  · isplitr; · iexact HI
    isplitl [Hs2]; · iexact Hs2
    isplitl [Hd2]; · iexact Hd2
    isplitl [Ht2] <;> iassumption
  iintro Hc2
  iapply (wp_Ld3 m K c _) $$ [Hs3 Hd3 Ht3 Hr3]
  · isplitr; · iexact HI
    isplitl [Hs3]; · iexact Hs3
    isplitl [Hd3]; · iexact Hd3
    isplitl [Ht3] <;> iassumption
  iintro Hc3
  iapply (wp_Ld4 m K c _) $$ [Hs4 Hd4 Ht4 Hr4]
  · isplitr; · iexact HI
    isplitl [Hs4]; · iexact Hs4
    isplitl [Hd4]; · iexact Hd4
    isplitl [Ht4] <;> iassumption
  iintro Hc4
  have hs := fun p Q => run_sig m K c (sigL c) (sigR c) (sig_eq c) p Q
  unfold WP at hs
  simp only [wp_bind] at hs
  iapply (hs _ _)
  isplitl [HO Ha Hb Hpt Hpf]
  · isplitr; · iexact HI
    isplitl [HO]; · iexact HO
    isplitl [Ha]; · iexact Ha
    isplitl [Hb]; · iexact Hb
    isplitl [Hpt] <;> iassumption
  iintro HO
  iapply (wp_Bar m K c _) $$ [HO Hat Hc]
  · isplitr; · iexact HI
    isplitr; · iexact Hlev
    isplitl [Hc]; · iexact Hc
    isplitl [HO] <;> iassumption
  iintro ⟨HO, Hv, Hl⟩
  ihave Hl := (take c) $$ Hl
  iapply (wp_Lw0 m K c 0 _) $$ [HO Hc0 Hp0]
  · isplitr; · iexact HI
    isplitr; · iexact Hlev
    isplitl [Hc0]; · iexact Hc0
    isplitl [HO] <;> iassumption
  iintro ⟨HO, H0⟩
  iapply (wp_Lw1 m K c 0 _) $$ [HO Hc1 Hp1]
  · isplitr; · iexact HI
    isplitr; · iexact Hlev
    isplitl [Hc1]; · iexact Hc1
    isplitl [HO] <;> iassumption
  iintro ⟨HO, H1⟩
  iapply (wp_Lw2 m K c 0 _) $$ [HO Hc2 Hp2]
  · isplitr; · iexact HI
    isplitr; · iexact Hlev
    isplitl [Hc2]; · iexact Hc2
    isplitl [HO] <;> iassumption
  iintro ⟨HO, H2⟩
  iapply (wp_Lw3 m K c 0 _) $$ [HO Hc3 Hp3]
  · isplitr; · iexact HI
    isplitr; · iexact Hlev
    isplitl [Hc3]; · iexact Hc3
    isplitl [HO] <;> iassumption
  iintro ⟨HO, H3⟩
  iapply (wp_Lw4 m K c 0 _) $$ [HO Hc4 Hp4]
  · isplitr; · iexact HI
    isplitr; · iexact Hlev
    isplitl [Hc4]; · iexact Hc4
    isplitl [HO] <;> iassumption
  iintro ⟨HO, H4⟩
  iapply HQ
  isplitl [HO]; · iexact HO
  isplitl [Hv]; · iexact Hv
  isplitr [Hl]
  · isplitl [H0]; · iexact H0
    isplitl [H1]; · iexact H1
    isplitl [H2]; · iexact H2
    isplitl [H3] <;> iassumption
  iexact Hl

/-! ## The tiles -/

/-- A product over eight, written out. -/
theorem univ8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A product over four, written out. -/
theorem univ4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The five loaded buffers. -/
abbrev Bufs (c : Dev nD) : sProp 𝕄 :=
  iprop(pt c cc0_scratch0 Finset.univ (xC m c) ∗ pt c cc0_scratch1 Finset.univ (wqC m c) ∗ pt c cc0_scratch2 Finset.univ (kC m c)
    ∗ pt c cc0_scratch3 Finset.univ (vC m c) ∗ pt c cc0_scratch4 Finset.univ (woC m c))

/-- The four tiles: the accumulator filled, every chunk of the first exchange sent. -/
theorem run_tiles (c : Dev nD) (Q : PUnit → sProp 𝕄) :
    iprop((Invs m K ∗ Ow c 0 ∗ Bufs m c ∗ ptE (F := F) c cc0_scratch5 Finset.univ ∗ ptE (F := F) c cc0_scratch6 Finset.univ
        ∗ bigSep Finset.univ (fun k : Fin 8 => iprop(TokA (F := F) c k ∗ LandA (F := F) c k)))
        ∗ ((Ow c 8 ∗ Bufs m c ∗ bigSep Finset.univ (fun k : Fin 8 => MidA m c k)) -∗ Q ⟨⟩))
      ⊢ WP c (tiles (p1 c)) Q := by
  unfold WP tiles
  simp only [wp_bind]
  rw [univ8, univ8]
  iintro ⟨⟨#HI, HO, ⟨Hx, Hwq, Hk, Hv, Hwo⟩, H5, H6, ⟨T0, T1, T2, T3, T4, T5, T6, T7⟩⟩, HQ⟩
  ihave H5 := (split5 c) $$ H5
  ihave H6 := (split6 c) $$ H6
  have e5 := univ4 (fun h => ptE (F := F) c cc0_scratch5 (setH h))
  have e6 := univ4 (fun h => ptE (F := F) c cc0_scratch6 (setH h))
  ihave H5 := (Entails.of_eq e5) $$ H5
  ihave H6 := (Entails.of_eq e6) $$ H6
  icases H5 with ⟨A0, A1, A2, A3⟩
  icases H6 with ⟨S0, S1, S2, S3⟩
  iapply (wp_rdWq c (wqC m c) _) $$ Hwq; iintro Hwq
  iapply (wp_rdWo c (woC m c) _) $$ Hwo; iintro Hwo
  iapply (run_bat m c 0 _)
  isplitl [Hx Hk Hv]
  · isplitl [Hx]; · iexact Hx
    isplitl [Hk] <;> iassumption
  iintro ⟨Hx, Hk, Hv⟩
  iapply (run_tile m K c 0 0 1 rfl rfl _)
  isplitl [HO A0 S0 T0 T1]
  · isplitr; · iexact HI
    isplitl [HO]; · iexact HO
    isplitl [A0]; · iexact A0
    isplitl [S0]; · iexact S0
    isplitl [T0] <;> iassumption
  iintro ⟨HO, T0, T1⟩
  iapply (run_tile m K c 1 2 3 rfl rfl _)
  isplitl [HO A1 S1 T2 T3]
  · isplitr; · iexact HI
    isplitl [HO]; · iexact HO
    isplitl [A1]; · iexact A1
    isplitl [S1]; · iexact S1
    isplitl [T2] <;> iassumption
  iintro ⟨HO, T2, T3⟩
  iapply (run_bat m c 1 _)
  isplitl [Hx Hk Hv]
  · isplitl [Hx]; · iexact Hx
    isplitl [Hk] <;> iassumption
  iintro ⟨Hx, Hk, Hv⟩
  iapply (run_tile m K c 2 4 5 rfl rfl _)
  isplitl [HO A2 S2 T4 T5]
  · isplitr; · iexact HI
    isplitl [HO]; · iexact HO
    isplitl [A2]; · iexact A2
    isplitl [S2]; · iexact S2
    isplitl [T4] <;> iassumption
  iintro ⟨HO, T4, T5⟩
  iapply (run_tile m K c 3 6 7 rfl rfl _)
  isplitl [HO A3 S3 T6 T7]
  · isplitr; · iexact HI
    isplitl [HO]; · iexact HO
    isplitl [A3]; · iexact A3
    isplitl [S3]; · iexact S3
    isplitl [T6] <;> iassumption
  iintro ⟨HO, T6, T7⟩
  iapply HQ
  isplitl [HO]; · iexact HO
  isplitl [Hx Hwq Hk Hv Hwo]
  · isplitl [Hx]; · iexact Hx
    isplitl [Hwq]; · iexact Hwq
    isplitl [Hk]; · iexact Hk
    isplitl [Hv] <;> iassumption
  isplitl [T0]; · iexact T0
  isplitl [T1]; · iexact T1
  isplitl [T2]; · iexact T2
  isplitl [T3]; · iexact T3
  isplitl [T4]; · iexact T4
  isplitl [T5]; · iexact T5
  isplitl [T6] <;> iassumption

/-! ## The exchanges -/

/-- The first exchanges' ends and the second exchanges' copies. -/
theorem run_phAs (c : Dev nD) (Q : PUnit → sProp 𝕄) :
    iprop(((Invs m K ∗ levAts L lv ∗ Ow c 8)
        ∗ bigSep Finset.univ (fun k : Fin 8 => iprop(MidA m c k ∗ ptE (F := F) c cc0_scratch8 (setC k) ∗ TokB (F := F) c k ∗ LandB (F := F) c k)))
        ∗ (((Invs m K ∗ levAts L lv ∗ Ow c 16) ∗ bigSep Finset.univ (fun k : Fin 8 => iprop(EndA (F := F) c k ∗ MidB m c k))) -∗ Q ⟨⟩))
      ⊢ WP c (phAs (p2 c)) Q := by
  rw [phAs_eq]
  refine run_chain c 8 _ (fun j => iprop(Invs m K ∗ levAts L lv ∗ Ow c (8 + j))) _ _ (fun k Q => ?_) Q
  iintro ⟨⟨⟨#HI, #Hlev, HO⟩, HA⟩, HQ⟩
  iapply (run_phA m K c k Q)
  isplitl [HO HA]
  · isplitr; · iexact HI
    isplitr; · iexact Hlev
    isplitl [HO]; · iexact HO
    iexact HA
  iintro ⟨HO, HB⟩
  iapply HQ
  isplitl [HO]
  · isplitr; · iexact HI
    isplitr; · iexact Hlev
    iexact HO
  iexact HB

/-- The second exchanges' ends. -/
theorem run_phBs (c : Dev nD) (Q : PUnit → sProp 𝕄) :
    iprop(((Invs m K ∗ levAts L lv ∗ Ow c 16) ∗ bigSep Finset.univ (fun k : Fin 8 => MidB m c k))
        ∗ (((Invs m K ∗ levAts L lv ∗ Ow c 16) ∗ bigSep Finset.univ (fun k : Fin 8 => EndB m c k)) -∗ Q ⟨⟩))
      ⊢ WP c phBs Q := by
  rw [phBs_eq]
  refine run_chain c 8 _ (fun _ => iprop(Invs m K ∗ levAts L lv ∗ Ow c 16)) _ _ (fun k Q => ?_) Q
  iintro ⟨⟨⟨#HI, #Hlev, HO⟩, HA⟩, HQ⟩
  iapply (run_phB m K c k Q)
  isplitl [HO HA]
  · isplitr; · iexact HI
    isplitr; · iexact Hlev
    isplitl [HO] <;> iassumption
  iintro ⟨HO, HB⟩
  iapply HQ
  isplitl [HO]
  · isplitr; · iexact HI
    isplitr; · iexact Hlev
    iexact HO
  iexact HB

/-! ## The whole body -/

/-- What each chunk's copies and waits need at entry: both exchanges' tokens, and that the device's landing cells have begun. -/
abbrev Chunk0 (c : Dev nD) (k : Fin 8) : sProp 𝕄 :=
  iprop(TokA (F := F) c k ∗ TokB (F := F) c k ∗ reached ER (cRA c k) 0 ∗ reached ER (cRB c k) 0)
/-- The four cells of a chunk at rest. -/
abbrev Rest4 (c : Dev nD) (k : Fin 8) : sProp 𝕄 :=
  iprop((semVal (cSA c k) 0 ∗ semVal (cRA c k) 0) ∗ (semVal (cSB c k) 0 ∗ semVal (cRB c k) 0))
/-- What the body takes, besides the cells' invariants and the levels. -/
abbrev Start (c : Dev nD) : sProp 𝕄 :=
  iprop(Entry (F := F) c ∗ Loads m c
    ∗ (ptE (F := F) c cc0_scratch5 Finset.univ ∗ ptE (F := F) c cc0_scratch6 Finset.univ ∗ ptE (F := F) c cc0_scratch7 Finset.univ
      ∗ ptE (F := F) c cc0_scratch8 Finset.univ ∗ ptE (F := F) c cc0_scratch9 Finset.univ)
    ∗ ptE (F := F) c main_v19 Finset.univ ∗ Loc0 (F := F) c semO
    ∗ bigSep Finset.univ (fun k : Fin 8 => Chunk0 (F := F) c k))
/-- What the body gives back. -/
abbrev Finish (c : Dev nD) : sProp 𝕄 :=
  iprop(semVal (barCell c) 0 ∗ Loaded2 m c ∗ Stored m c
    ∗ (ptE (F := F) c cc0_scratch6 Finset.univ ∗ ptE (F := F) c cc0_scratch7 Finset.univ
      ∗ ptE (F := F) c cc0_scratch8 Finset.univ ∗ ptE (F := F) c cc0_scratch9 Finset.univ)
    ∗ bigSep Finset.univ (fun k : Fin 8 => Rest4 (F := F) c k))

/-- The landing chunks beside their cells, and the tokens the two exchanges use. -/
theorem sort0 (c : Dev nD) :
    iprop(bigSep Finset.univ (fun k => ptE (F := F) c cc0_scratch7 (setC k)) ∗ bigSep Finset.univ (fun k => ptE (F := F) c cc0_scratch9 (setC k))
      ∗ bigSep Finset.univ (fun k : Fin 8 => Chunk0 (F := F) c k))
    ⊢ iprop(bigSep Finset.univ (fun k : Fin 8 => iprop((ptE (F := F) c cc0_scratch7 (setC k) ∗ ptE (F := F) c cc0_scratch9 (setC k))
            ∗ reached ER (cRA c k) 0 ∗ reached ER (cRB c k) 0))
        ∗ bigSep Finset.univ (fun k => TokA (F := F) c k) ∗ bigSep Finset.univ (fun k => TokB (F := F) c k)) := by
  rw [← bigSep_sep', ← bigSep_sep', ← bigSep_sep', ← bigSep_sep']
  refine bigSep_mono fun k _ => ?_
  show (_ : sProp 𝕄) ⊢ _
  iintro ⟨H7, H9, HA, HB, Hr, Hr'⟩
  isplitl [H7 H9 Hr Hr']
  · isplitl [H7 H9]; · isplitl [H7] <;> iassumption
    isplitl [Hr] <;> iassumption
  isplitl [HA] <;> iassumption

/-- The first exchange's tokens beside where its copies land, and the second's. -/
theorem sort1 (c : Dev nD) :
    iprop(bigSep Finset.univ (fun k => TokA (F := F) c k) ∗ bigSep Finset.univ (fun k : Fin 8 => iprop(LandA (F := F) c k ∗ LandB (F := F) c k)))
    ⊢ iprop(bigSep Finset.univ (fun k : Fin 8 => iprop(TokA (F := F) c k ∗ LandA (F := F) c k)) ∗ bigSep Finset.univ (fun k => LandB (F := F) c k)) := by
  rw [← bigSep_sep', ← bigSep_sep']
  refine bigSep_mono fun k _ => ?_
  show (_ : sProp 𝕄) ⊢ _
  iintro ⟨H1, H2, H3⟩
  isplitr [H3]; · isplitl [H1] <;> iassumption
  iexact H3

/-- What a device holds, in another order. -/
theorem sort2 (c : Dev nD) :
    iprop(bigSep Finset.univ (fun k => MidA m c k) ∗ bigSep Finset.univ (fun k => ptE (F := F) c cc0_scratch8 (setC k))
      ∗ bigSep Finset.univ (fun k => TokB (F := F) c k) ∗ bigSep Finset.univ (fun k => LandB (F := F) c k))
    ⊢ bigSep Finset.univ (fun k : Fin 8 => iprop(MidA m c k ∗ ptE (F := F) c cc0_scratch8 (setC k) ∗ TokB (F := F) c k ∗ LandB (F := F) c k)) := by
  rw [← bigSep_sep', ← bigSep_sep', ← bigSep_sep']

/-- What the exchanges leave: every chunk's cells at rest, the exchanged buffers, the accumulator at its final contents. -/
theorem sort3 (c : Dev nD) :
    iprop(bigSep Finset.univ (fun k => EndA (F := F) c k) ∗ bigSep Finset.univ (fun k => EndB m c k))
    ⊢ iprop((bigSep Finset.univ (fun k => ptE (F := F) c cc0_scratch6 (setC k)) ∗ bigSep Finset.univ (fun k => ptE (F := F) c cc0_scratch7 (setC k))
        ∗ bigSep Finset.univ (fun k => ptE (F := F) c cc0_scratch8 (setC k)) ∗ bigSep Finset.univ (fun k => ptE (F := F) c cc0_scratch9 (setC k)))
      ∗ bigSep Finset.univ (fun k : Fin 8 => Rest4 (F := F) c k) ∗ bigSep Finset.univ (fun k => pt c cc0_scratch5 (setC k) (A2 m c))) := by
  rw [← bigSep_sep', ← bigSep_sep', ← bigSep_sep', ← bigSep_sep', ← bigSep_sep', ← bigSep_sep']
  refine bigSep_mono fun k _ => ?_
  show (_ : sProp 𝕄) ⊢ _
  unfold EndA EndB
  iintro ⟨⟨Hv, H6, H7⟩, Hw, H8, H9, H5⟩
  isplitl [H6 H7 H8 H9]
  · isplitl [H6]; · iexact H6
    isplitl [H7]; · iexact H7
    isplitl [H8] <;> iassumption
  isplitr [H5]
  · isplitl [Hv] <;> iassumption
  iexact H5

/-- The body, on any device. -/
theorem run_mainAt (c : Dev nD) (Q : PUnit → sProp 𝕄) :
    iprop((Invs m K ∗ levAts L lv ∗ (∃ W, owes (c : Thread nD τ) (O₀ c) W) ∗ Start m c)
        ∗ (((∃ W, owes (c : Thread nD τ) 0 W) ∗ Finish m c) -∗ Q ⟨⟩))
      ⊢ WP c (mainAt (sigL c) (sigR c) (p1 c) (p2 c)) Q := by
  unfold WP mainAt
  simp only [wp_bind]
  iintro ⟨⟨#HI, #Hlev, HO, HE, HL, ⟨H5, H6, H7, H8, H9⟩, Hv, ⟨Ht, Hr, Hp⟩, HT⟩, HQ⟩
  ihave H7 := (split7 c) $$ H7
  ihave H8 := (split8 c) $$ H8
  ihave H9 := (split9 c) $$ H9
  ihave HS := (sort0 c) $$ [H7 H9 HT]
  · isplitl [H7]; · iexact H7
    isplitl [H9] <;> iassumption
  icases HS with ⟨HS, HTA, HTB⟩
  iapply (run_pre m K c _)
  isplitl [HO HE HL HS]
  · isplitr; · iexact HI
    isplitr; · iexact Hlev
    isplitl [HO]; · iexact HO
    isplitl [HE]; · iexact HE
    isplitl [HL] <;> iassumption
  iintro ⟨HO, Hbar, HL, HLd⟩
  ihave HL := (Entails.of_eq (loaded_eq m c)) $$ HL
  icases HL with ⟨⟨Hv0, Hx, Ha0⟩, ⟨Hv1, Hwq, Ha1⟩, ⟨Hv2, Hk, Ha2⟩, ⟨Hv3, Hvv, Ha3⟩, ⟨Hv4, Hwo, Ha4⟩⟩
  ihave HS := (sort1 c) $$ [HTA HLd]
  · isplitl [HTA] <;> iassumption
  icases HS with ⟨HTA, HLB⟩
  iapply (run_tiles m K c _)
  isplitl [HO Hx Hwq Hk Hvv Hwo H5 H6 HTA]
  · isplitr; · iexact HI
    isplitl [HO]; · iexact HO
    isplitl [Hx Hwq Hk Hvv Hwo]
    · isplitl [Hx]; · iexact Hx
      isplitl [Hwq]; · iexact Hwq
      isplitl [Hk]; · iexact Hk
      isplitl [Hvv] <;> iassumption
    isplitl [H5]; · iexact H5
    isplitl [H6] <;> iassumption
  iintro ⟨HO, ⟨Hx, Hwq, Hk, Hvv, Hwo⟩, HM⟩
  ihave HS := (sort2 m c) $$ [HM H8 HTB HLB]
  · isplitl [HM]; · iexact HM
    isplitl [H8]; · iexact H8
    isplitl [HTB] <;> iassumption
  iapply (run_phAs m K c _)
  isplitl [HO HS]
  · isplitl [HO]
    · isplitr; · iexact HI
      isplitr; · iexact Hlev
      iexact HO
    iexact HS
  iintro ⟨⟨-, -, HO⟩, HS⟩
  have e := bigSep_sep' (M := 𝕄) (s := Finset.univ) (fun k : Fin 8 => EndA (F := F) c k) (fun k => MidB m c k)
  ihave HS := (Entails.of_eq e) $$ HS
  icases HS with ⟨HEA, HM⟩
  iapply (run_phBs m K c _)
  isplitl [HO HM]
  · isplitl [HO]
    · isplitr; · iexact HI
      isplitr; · iexact Hlev
      iexact HO
    iexact HM
  iintro ⟨⟨-, -, HO⟩, HEB⟩
  ihave HS := (sort3 m c) $$ [HEA HEB]
  · isplitl [HEA] <;> iassumption
  icases HS with ⟨⟨H6, H7, H8, H9⟩, HR, H5⟩
  ihave H6 := (join6 c m) $$ H6
  ihave H7 := (join7 c m) $$ H7
  ihave H8 := (join8 c m) $$ H8
  ihave H9 := (join9 c m) $$ H9
  ihave H5 := (join5 c (A2 m c)) $$ H5
  iapply (wp_Out m K c _) $$ [H5 Hv Ht Hr]
  · isplitr; · iexact HI
    isplitl [H5]; · iexact H5
    isplitl [Hv]; · iexact Hv
    isplitl [Ht] <;> iassumption
  iintro Hc
  iapply (wp_Ow m K c 16 _) $$ [HO Hc Hp]
  · isplitr; · iexact HI
    isplitr; · iexact Hlev
    isplitl [Hc]; · iexact Hc
    isplitl [HO] <;> iassumption
  iintro ⟨HO, HP⟩
  ihave HP := (Entails.of_eq (stored_eq m c)) $$ HP
  iapply (wp_done c ⟨⟩ Q)
  iapply HQ
  unfold Ow
  rw [debt_end]
  isplitl [HO]; · iexact HO
  isplitl [Hbar]; · iexact Hbar
  isplitl [Hv0 Hx Ha0 Hv1 Hwq Ha1 Hv2 Hk Ha2 Hv3 Hvv Ha3 Hv4 Hwo Ha4]
  · isplitl [Hv0 Hx Ha0]
    · isplitl [Hv0]; · iexact Hv0
      isplitl [Hx] <;> iassumption
    isplitl [Hv1 Hwq Ha1]
    · isplitl [Hv1]; · iexact Hv1
      isplitl [Hwq] <;> iassumption
    isplitl [Hv2 Hk Ha2]
    · isplitl [Hv2]; · iexact Hv2
      isplitl [Hk] <;> iassumption
    isplitl [Hv3 Hvv Ha3]
    · isplitl [Hv3]; · iexact Hv3
      isplitl [Hvv] <;> iassumption
    isplitl [Hv4]; · iexact Hv4
    isplitl [Hwo] <;> iassumption
  isplitl [HP]; · iexact HP
  isplitl [H6 H7 H8 H9]
  · isplitl [H6]; · iexact H6
    isplitl [H7]; · iexact H7
    isplitl [H8] <;> iassumption
  iexact HR

/-- The printed body, on any device. -/
theorem run_body (c : Dev nD) (Q : PUnit → sProp 𝕄) :
    iprop((Invs m K ∗ levAts L lv ∗ (∃ W, owes (c : Thread nD τ) (O₀ c) W) ∗ Start m c)
        ∗ (((∃ W, owes (c : Thread nD τ) 0 W) ∗ Finish m c) -∗ Q ⟨⟩))
      ⊢ WP c Pbody Q := by
  rw [Pbody_eq]
  unfold WP pId Prog.lift
  rw [wp_bind]
  rw [wp_deviceId]
  have h := run_mainAt m K c Q
  rw [← devA_eq, ← devB_eq] at h
  exact h.trans (wp_done c c (fun a => WP c (mainAt (sigL a) (sigR a) (devA a) (devB a)) Q))

end Cert.KernelIdeal.Attn
end
-- ==== Proof.Talk.lean ====
module

public import proofs.«01_k».proof.Proof.Whole
public import proofs.«01_k».proof.Proof.Gen.KernelIdeal.Regions
public import Idealize.ShloMosaic.Lib.Pipeline.RegionTalk

/-! The kernel region: its own cells opened at entry, its body run, its record for the launch. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The copy semaphores, listed -/

/-- The load semaphores are distinct. -/
theorem semL_inj : Function.Injective semL := by decide
/-- The first send semaphores are distinct. -/
theorem semSA_inj : Function.Injective semSA := by decide
/-- The first receive semaphores are distinct. -/
theorem semRA_inj : Function.Injective semRA := by decide
/-- The second send semaphores are distinct. -/
theorem semSB_inj : Function.Injective semSB := by decide
/-- The second receive semaphores are distinct. -/
theorem semRB_inj : Function.Injective semRB := by decide

/-- A separating product over a disjoint union. -/
theorem sep_union {I : Type} [DecidableEq I] {s t : Finset I} (h : Disjoint s t) (Φ : I → sProp 𝕄) :
    bigSep (s ∪ t) Φ = iprop(bigSep s Φ ∗ bigSep t Φ) := bigSep_union h

/-- All of a family over the copy semaphores: the loads' five, the copy out's, each exchange's send and landing ones. -/
theorem sems_split (Φ : DmaSem sig → sProp 𝕄) : bigSep Finset.univ Φ
    = iprop((Φ (semL 0) ∗ Φ (semL 1) ∗ Φ (semL 2) ∗ Φ (semL 3) ∗ Φ (semL 4)) ∗ Φ semO
      ∗ bigSep Finset.univ (fun k => Φ (semSA k)) ∗ bigSep Finset.univ (fun k => Φ (semRA k))
      ∗ bigSep Finset.univ (fun k => Φ (semSB k)) ∗ bigSep Finset.univ (fun k => Φ (semRB k))) := by
  have e : (Finset.univ : Finset (DmaSem sig)) = Finset.univ.map ⟨semL, semL_inj⟩ ∪ ({semO} ∪ (Finset.univ.map ⟨semSA, semSA_inj⟩
      ∪ (Finset.univ.map ⟨semRA, semRA_inj⟩ ∪ (Finset.univ.map ⟨semSB, semSB_inj⟩ ∪ Finset.univ.map ⟨semRB, semRB_inj⟩)))) := by decide
  rw [e, sep_union (by decide), sep_union (by decide), sep_union (by decide), sep_union (by decide),
    sep_union (by decide), bigSep_map, bigSep_map, bigSep_map, bigSep_map, bigSep_map, bigSep_singleton,
    bigSep_univ_eq_bigSepL [0, 1, 2, 3, 4] (by decide) (by decide)]
  rfl

/-! ## The ghost state, before and after the cells are opened -/

/-- The tokens of the duties device `c` pays. -/
def devToks (c : Dev nD) : sProp 𝕄 :=
  iprop((dutyTok ER (barCell (pa c)) 0 true ∗ dutyTok ER (barCell (pb c)) 0 false)
    ∗ (dutyTok ER (dc (c, semL 0)) 0 true ∗ dutyTok ER (dc (c, semL 1)) 0 true ∗ dutyTok ER (dc (c, semL 2)) 0 true
      ∗ dutyTok ER (dc (c, semL 3)) 0 true ∗ dutyTok ER (dc (c, semL 4)) 0 true)
    ∗ dutyTok ER (dc (c, semO)) 0 true
    ∗ bigSep Finset.univ (fun k => dutyTok ER (cSA c k) 0 true) ∗ bigSep Finset.univ (fun k => dutyTok ER (cRA (p1 c k) k) 0 true)
    ∗ bigSep Finset.univ (fun k => dutyTok ER (cSB c k) 0 true) ∗ bigSep Finset.univ (fun k => dutyTok ER (cRB (p2 c k) k) 0 true))
/-- What the launch keeps for device `c`, its copy cells not yet open. -/
def ghost (K : GSem nD τ sig → ℕ) (c : Dev nD) : sProp 𝕄 :=
  iprop(Invs m K ∗ (reached ER (barCell (pa c)) 0 ∗ reached ER (barCell (pb c)) 0) ∗ atPos ER (barCell c) 0 ∅ 0
    ∗ bigSep Finset.univ (fun s : DmaSem sig => openTok ER (dc (c, s))) ∗ devToks (F := F) c)
/-- The credits its waits consume. -/
def creds (c : Dev nD) : sProp 𝕄 :=
  iprop(cred (tallyAt (barCell c) () 2) ∗ bigSep Finset.univ (fun k => cred (tallyAt (cRA c k) () N))
    ∗ bigSep Finset.univ (fun k => cred (tallyAt (cRB c k) () N)))
/-- The cells as the body takes them. -/
def cells0 (c : Dev nD) : sProp 𝕄 :=
  iprop(Entry (F := F) c ∗ (Loc0 (F := F) c (semL 0) ∗ Loc0 (F := F) c (semL 1) ∗ Loc0 (F := F) c (semL 2) ∗ Loc0 (F := F) c (semL 3) ∗ Loc0 (F := F) c (semL 4))
    ∗ Loc0 (F := F) c semO ∗ bigSep Finset.univ (fun k : Fin 8 => Chunk0 (F := F) c k))
def Tk (c : Dev nD) : sProp 𝕄 := iprop((∃ K, ghost m K c) ∗ creds (F := F) c)
def Xk (c : Dev nD) : sProp 𝕄 := iprop(∃ K, Invs m K ∗ levAts L lv ∗ cells0 (F := F) c)
def Yk (c : Dev nD) : sProp 𝕄 := semVal (barCell c) 0

/-- Every copy cell opened: its counter taken in, its position and record given out. -/
theorem open_all (K : GSem nD τ sig → ℕ) (c : Dev nD) :
    iprop(Invs m K ∗ bigSep Finset.univ (fun s : DmaSem sig => openTok ER (dc (c, s))) ∗ bigSep Finset.univ (fun s : DmaSem sig => semVal (dc (c, s)) 0))
      ⊢ (|={Set.univ}=> bigSep Finset.univ (fun s : DmaSem sig => iprop(atPos ER (dc (c, s)) 0 ∅ 0 ∗ reached ER (dc (c, s)) 0)) : sProp 𝕄) := by
  rw [← bigSep_sep']
  refine (bigSep_with_persistent (R := Invs m K) (Ψ := fun s : DmaSem sig => (iprop(|={Set.univ}=> iprop(atPos ER (dc (c, s)) 0 ∅ 0 ∗ reached ER (dc (c, s)) 0)) : sProp 𝕄)) fun s _ => ?_).trans (bigSep_fupd _ _)
  iintro ⟨#HI, Ho, Hv⟩
  ihave #Hi := (inv_dma m K c s) $$ HI
  iapply (Rounds.cell_open ER (Rd m) (g := dc (c, s)) (Set.mem_univ (K (dc (c, s)))))
  isplitr; · iexact Hi
  isplitl [Ho] <;> iassumption

/-- One chunk's tokens, positions, records and credits, brought together. -/
theorem sort4 (c : Dev nD) :
    iprop((bigSep Finset.univ (fun k => iprop(atPos ER (cSA c k) 0 ∅ 0 ∗ reached ER (cSA c k) 0)) ∗ bigSep Finset.univ (fun k => iprop(atPos ER (cRA c k) 0 ∅ 0 ∗ reached ER (cRA c k) 0))
        ∗ bigSep Finset.univ (fun k => iprop(atPos ER (cSB c k) 0 ∅ 0 ∗ reached ER (cSB c k) 0)) ∗ bigSep Finset.univ (fun k => iprop(atPos ER (cRB c k) 0 ∅ 0 ∗ reached ER (cRB c k) 0)))
      ∗ (bigSep Finset.univ (fun k => dutyTok ER (cSA c k) 0 true) ∗ bigSep Finset.univ (fun k => dutyTok ER (cRA (p1 c k) k) 0 true)
        ∗ bigSep Finset.univ (fun k => dutyTok ER (cSB c k) 0 true) ∗ bigSep Finset.univ (fun k => dutyTok ER (cRB (p2 c k) k) 0 true))
      ∗ bigSep Finset.univ (fun k => cred (tallyAt (cRA c k) () N)) ∗ bigSep Finset.univ (fun k => cred (tallyAt (cRB c k) () N)))
    ⊢ bigSep Finset.univ (fun k : Fin 8 => Chunk0 (F := F) c k) := by
  rw [← bigSep_sep', ← bigSep_sep', ← bigSep_sep', ← bigSep_sep', ← bigSep_sep', ← bigSep_sep', ← bigSep_sep', ← bigSep_sep', ← bigSep_sep']
  refine bigSep_mono fun k _ => ?_
  show (_ : sProp 𝕄) ⊢ _
  unfold Chunk0 TokA TokB
  iintro ⟨⟨⟨HpS, #HrS⟩, ⟨HpR, #HrR⟩, ⟨HqS, #HtS⟩, ⟨HqR, #HtR⟩⟩, ⟨H1, H2, H3, H4⟩, Hc, Hd⟩
  isplitl [HpS HpR H1 H2 Hc]
  · isplitl [H1]; · iexact H1
    isplitr; · iexact HrS
    isplitl [H2]; · iexact H2
    isplitl [HpS]; · iexact HpS
    isplitl [HpR] <;> iassumption
  isplitl [HqS HqR H3 H4 Hd]
  · isplitl [H3]; · iexact H3
    isplitr; · iexact HtS
    isplitl [H4]; · iexact H4
    isplitl [HqS]; · iexact HqS
    isplitl [HqR] <;> iassumption
  isplitr; · iexact HrR
  iexact HtR

/-- The kernel's own semaphores are the copy semaphores. -/
abbrev osem0 : DmaSem sig → SemLoc sig := fun s => .dma s

/-- Opening what a device holds when its call begins. -/
theorem hopen0 (c : Dev nD) : iprop(Tk m c ∗ Pipeline.ownSems0 osem0 c ∗ levAts L lv) ⊢ (|={Set.univ}=> Xk m c : sProp 𝕄) := by
  unfold Tk Xk ghost creds devToks cells0
  iintro ⟨⟨⟨%K, #HI, ⟨#Hra, #Hrb⟩, Hat, Ho, ⟨Hta, Htb⟩, ⟨T0, T1, T2, T3, T4⟩, TO, HT⟩, Hc, Hcr⟩, Hs, #Hlev⟩
  have eo : (Pipeline.ownSems0 osem0 c : sProp 𝕄) = bigSep Finset.univ (fun s : DmaSem sig => semVal (dc (c, s)) 0) := rfl
  ihave Hs := (Entails.of_eq eo) $$ Hs
  imod (open_all m K c) $$ [Ho Hs] with H
  · isplitr; · iexact HI
    isplitl [Ho]; · iexact Ho
    iexact Hs
  have e := sems_split (F := F) (fun s : DmaSem sig => iprop(atPos ER (dc (c, s)) 0 ∅ 0 ∗ reached ER (dc (c, s)) 0))
  ihave H := (Entails.of_eq e) $$ H
  icases H with ⟨⟨⟨P0, R0⟩, ⟨P1, R1⟩, ⟨P2, R2⟩, ⟨P3, R3⟩, ⟨P4, R4⟩⟩, ⟨PO, RO⟩, HP⟩
  imodintro
  iexists K
  isplitr; · iexact HI
  isplitr; · iexact Hlev
  isplitl [Hta Htb Hat Hc]
  · isplitl [Hta]; · isplitl [Hta]; · iexact Hta
                     iexact Hra
    isplitl [Htb]; · isplitl [Htb]; · iexact Htb
                     iexact Hrb
    isplitl [Hat] <;> iassumption
  isplitl [T0 T1 T2 T3 T4 P0 P1 P2 P3 P4 R0 R1 R2 R3 R4]
  · isplitl [T0 P0 R0]; · isplitl [T0]; · iexact T0
                          isplitl [R0] <;> iassumption
    isplitl [T1 P1 R1]; · isplitl [T1]; · iexact T1
                          isplitl [R1] <;> iassumption
    isplitl [T2 P2 R2]; · isplitl [T2]; · iexact T2
                          isplitl [R2] <;> iassumption
    isplitl [T3 P3 R3]; · isplitl [T3]; · iexact T3
                          isplitl [R3] <;> iassumption
    isplitl [T4]; · iexact T4
    isplitl [R4] <;> iassumption
  isplitl [TO PO RO]
  · isplitl [TO]; · iexact TO
    isplitl [RO] <;> iassumption
  iapply (sort4 c)
  isplitl [HP]; · iexact HP
  isplitl [HT] <;> iassumption

/-! ## The region's buffers and proof data -/

/-- The buffers the body addresses outside its scratch. -/
def hbm : Finset (DevRef τ sig) :=
  [Proc.devRef .tc main_arg0, Proc.devRef .tc main_arg1, Proc.devRef .tc main_v11, Proc.devRef .tc main_v18, Proc.devRef .tc main_arg4, Proc.devRef .tc main_v19].toFinset
/-- The arrays in high-bandwidth memory are among the launch's buffers. -/
theorem hbm_sub : hbm ⊆ Pipeline.ucRefs τ sig := fun b hb => by
  simp only [hbm, List.mem_toFinset, List.mem_cons, List.not_mem_nil, or_false] at hb
  rcases hb with rfl | rfl | rfl | rfl | rfl | rfl <;> exact Finset.mem_filter.mpr ⟨StableHlo.devRef_mem_tcRefs _, by decide⟩
/-- What is held of those arrays, one by one. -/
theorem hbm_eq (c : Dev nD) (W : Valuation τ sig (Elt F)) : (StableHlo.held (c : Thread nD τ) hbm W : sProp 𝕄)
    = iprop(pt c main_arg0 Finset.univ (W main_arg0) ∗ pt c main_arg1 Finset.univ (W main_arg1) ∗ pt c main_v11 Finset.univ (W main_v11)
      ∗ pt c main_v18 Finset.univ (W main_v18) ∗ pt c main_arg4 Finset.univ (W main_arg4) ∗ pt c main_v19 Finset.univ (W main_v19)) := by
  unfold StableHlo.held
  rw [bigSep_eq_bigSepL_of_eq _ (show hbm = _ from rfl) (by decide)]
  rfl

/-- The device's buffers at the end: the result at the final contents, all else as before. -/
def Vend (c : Dev nD) : Valuation τ sig (Elt F) := Function.update (V1 m c) main_v19 (A2 m c)
/-- At the end the result array holds the sum. -/
theorem Vend_v19 (c : Dev nD) : Vend m c main_v19 = A2 m c := Function.update_self _ _ _
/-- At the end every other array is as before. -/
theorem Vend_ne (c : Dev nD) (b : DevRef τ sig) (h : b ≠ Proc.devRef .tc main_v19) : Vend m c b = V1 m c b := Function.update_of_ne h _ _

def datP (c : Dev nD) : sProp 𝕄 :=
  iprop(Pipeline.scopedRest (cfg0.spec) c ∗ (∃ r, prngReg c r) ∗ StableHlo.held (c : Thread nD τ) hbm (V1 m c) ∗ Xk m c)
def datQ (c : Dev nD) : sProp 𝕄 :=
  iprop(Pipeline.scopedRest (cfg0.spec) c ∗ (∃ r, prngReg c r) ∗ StableHlo.held (c : Thread nD τ) hbm (Vend m c) ∗ Pipeline.ownSems0 osem0 c ∗ Yk c)
def dat0 (c : Dev nD) : Pipeline.Dat τ (Elt F) Unit ℕ UU ℕ cfg0 c where
  A w := w.elim0
  after w := w.elim0
  Φ t := if t.val = 0 then datP m c else datQ m c
  q w := w.elim0
  owed t := if t.val = 0 then O₀ c else 0
def pdats : (p : Fin 1) → (c : Dev nD) → Pipeline.Dat τ (Elt F) Unit ℕ UU ℕ (cfgs p) c
  | 0 => dat0 m

/-- What is owed at the first step. -/
theorem owed_first (c : Dev nD) : (dat0 (F := F) m c).owed t0_0.castSucc = O₀ c := by
  show (if (t0_0.castSucc : Fin (cfg0.N + 1)).val = 0 then O₀ c else 0) = O₀ c; exact if_pos rfl
/-- What is owed when the call begins. -/
theorem owed_zero (c : Dev nD) : (pdats (F := F) m 0 c).owed 0 = O₀ c := by
  show (if ((0 : Fin (cfg0.N + 1)).val = 0) then O₀ c else 0) = O₀ c; exact if_pos rfl
/-- The last step isn't the first. -/
theorem last_ne : ¬ (Fin.last cfg0.N).val = 0 := by rw [Fin.val_last, show cfg0.N = 1 from N_0]; decide
/-- Nothing is owed at the end. -/
theorem owed_last (c : Dev nD) : (pdats (F := F) m 0 c).owed (Fin.last _) = 0 := by
  show (if (Fin.last cfg0.N).val = 0 then O₀ c else 0) = 0
  rw [if_neg last_ne]
/-- The state when the call begins. -/
theorem phi_zero (c : Dev nD) : (pdats (F := F) m 0 c).Φ 0 = datP m c := by
  show (if ((0 : Fin (cfg0.N + 1)).val = 0) then datP m c else datQ m c) = _; exact if_pos rfl
/-- The state when the call ends. -/
theorem phi_last (c : Dev nD) : (pdats (F := F) m 0 c).Φ (Fin.last _) = datQ m c := by
  show (if (Fin.last cfg0.N).val = 0 then datP m c else datQ m c) = _; rw [if_neg last_ne]
/-- A product over no windows is empty. -/
theorem no_win {M : Type} [URA M] (Φ : Fin 0 → sProp M) : bigSep Finset.univ Φ = (BI.emp : sProp M) :=
  bigSep_univ_eq_bigSepL [] (by decide) (by decide) Φ

/-- Entering the record of what a step owes. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ dat.owesAt () t := by
  unfold Dat.owesAt Pipeline.owesWithin Dat.bound
  rw [h0, hr]
  iintro ⟨%W, HO⟩
  iexists W
  isplitr; · ipureintro; exact fun _ _ => Or.inl trivial
  iexact HO
/-- Leaving the record of what a step owes. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

/-- The ten scratch buffers, each at contents not chosen. -/
theorem scratch_eq (c : Dev nD) : (Pipeline.scopedRest (cfg0.spec) c : sProp 𝕄)
    = iprop(ptE (F := F) c cc0_scratch0 Finset.univ ∗ ptE (F := F) c cc0_scratch1 Finset.univ ∗ ptE (F := F) c cc0_scratch2 Finset.univ
      ∗ ptE (F := F) c cc0_scratch3 Finset.univ ∗ ptE (F := F) c cc0_scratch4 Finset.univ ∗ ptE (F := F) c cc0_scratch5 Finset.univ
      ∗ ptE (F := F) c cc0_scratch6 Finset.univ ∗ ptE (F := F) c cc0_scratch7 Finset.univ ∗ ptE (F := F) c cc0_scratch8 Finset.univ
      ∗ ptE (F := F) c cc0_scratch9 Finset.univ) := scopedRest0_eq c

/-- What enters the region makes what the body takes. -/
theorem enter (c : Dev nD) : datP m c ⊢ iprop((∃ r, prngReg c r) ∗ ∃ K, Invs m K ∗ levAts L lv ∗ Start m c) := by
  unfold datP Xk cells0
  rw [scratch_eq, hbm_eq]
  iintro ⟨⟨S0, S1, S2, S3, S4, S5, S6, S7, S8, S9⟩, Hp, ⟨B0, B1, B2, B3, B4, B5⟩, ⟨%K, HI, Hlev, HE, ⟨C0, C1, C2, C3, C4⟩, CO, HC⟩⟩
  isplitl [Hp]; · iexact Hp
  iexists K
  isplitl [HI]; · iexact HI
  isplitl [Hlev]; · iexact Hlev
  isplitl [HE]; · iexact HE
  isplitl [S0 S1 S2 S3 S4 B0 B1 B2 B3 B4 C0 C1 C2 C3 C4]
  · isplitl [B0 S0 C0]
    · isplitl [B0]; · iexact B0
      isplitl [S0] <;> iassumption
    isplitl [B1 S1 C1]
    · isplitl [B1]; · iexact B1
      isplitl [S1] <;> iassumption
    isplitl [B2 S2 C2]
    · isplitl [B2]; · iexact B2
      isplitl [S2] <;> iassumption
    isplitl [B3 S3 C3]
    · isplitl [B3]; · iexact B3
      isplitl [S3] <;> iassumption
    isplitl [B4]; · iexact B4
    isplitl [S4] <;> iassumption
  isplitl [S5 S6 S7 S8 S9]
  · isplitl [S5]; · iexact S5
    isplitl [S6]; · iexact S6
    isplitl [S7]; · iexact S7
    isplitl [S8] <;> iassumption
  isplitl [B5]; · iexists _; iexact B5
  isplitl [CO] <;> iassumption

/-- The four families of a chunk's cells at rest, apart. -/
theorem sort5 (c : Dev nD) : bigSep Finset.univ (fun k : Fin 8 => Rest4 (F := F) c k)
    ⊢ iprop(bigSep Finset.univ (fun k => semVal (cSA c k) 0) ∗ bigSep Finset.univ (fun k => semVal (cRA c k) 0)
      ∗ bigSep Finset.univ (fun k => semVal (cSB c k) 0) ∗ bigSep Finset.univ (fun k => semVal (cRB c k) 0)) := by
  rw [← bigSep_sep', ← bigSep_sep', ← bigSep_sep']
  refine bigSep_mono fun k _ => ?_
  show (_ : sProp 𝕄) ⊢ _
  iintro ⟨⟨H1, H2⟩, H3, H4⟩
  isplitl [H1]; · iexact H1
  isplitl [H2]; · iexact H2
  isplitl [H3] <;> iassumption

/-- What the body gives back makes what leaves the region. -/
theorem leave (c : Dev nD) : iprop((∃ r, prngReg c r) ∗ Finish m c) ⊢ datQ m c := by
  unfold datQ Yk
  have eo : (Pipeline.ownSems0 osem0 c : sProp 𝕄) = bigSep Finset.univ (fun s : DmaSem sig => semVal (dc (c, s)) 0) := rfl
  rw [scratch_eq, hbm_eq, eo, sems_split, Vend_v19, Vend_ne m c _ (by decide), Vend_ne m c _ (by decide), Vend_ne m c _ (by decide),
    Vend_ne m c _ (by decide), Vend_ne m c _ (by decide)]
  iintro ⟨Hp, Hb, ⟨⟨V0, S0, B0⟩, ⟨V1, S1, B1⟩, ⟨V2, S2, B2⟩, ⟨V3, S3, B3⟩, ⟨V4, S4, B4⟩⟩, ⟨VO, BO, S5⟩, ⟨S6, S7, S8, S9⟩, HR⟩
  ihave HR := (sort5 c) $$ HR
  isplitl [S0 S1 S2 S3 S4 S5 S6 S7 S8 S9]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexact S6
    isplitl [S7]; · iexact S7
    isplitl [S8] <;> iassumption
  isplitl [Hp]; · iexact Hp
  isplitl [B0 B1 B2 B3 B4 BO]
  · isplitl [B0]; · iexact B0
    isplitl [B1]; · iexact B1
    isplitl [B2]; · iexact B2
    isplitl [B3]; · iexact B3
    isplitl [B4]; · iexact B4
    iexact BO
  isplitr [Hb]
  · isplitl [V0 V1 V2 V3 V4]
    · isplitl [V0]; · iexact V0
      isplitl [V1]; · iexact V1
      isplitl [V2]; · iexact V2
      isplitl [V3] <;> iassumption
    isplitl [VO]; · iexact VO
    iexact HR
  iexact Hb

/-- The region's body obligation. -/
theorem body0 (c : Dev nD) : BodyObligation (dat0 (F := F) m c) defs₀ 𝒱₀ () Set.univ := fun t => by
  obtain rfl := fin_N0 t
  rw [no_win, no_win]
  rw [show (dat0 m c).Φ t0_0.castSucc = datP m c from rfl, show (dat0 m c).Φ t0_0.succ = datQ m c from rfl]
  iintro ⟨HP, HO, -⟩
  ihave HO := (owesAt_elim (dat0 m c) _ (O₀ c) (owed_first m c)) $$ HO
  ihave HP := (enter m c) $$ HP
  icases HP with ⟨Hp, ⟨%K, HI, Hlev, HS⟩⟩
  have h := run_body m K c
  unfold WP at h
  rw [← body_eq] at h
  iapply (h _)
  isplitl [HI Hlev HO HS]
  · isplitl [HI]; · iexact HI
    isplitl [Hlev]; · iexact Hlev
    isplitl [HO] <;> iassumption
  iintro ⟨HO, HF⟩
  isplitl [Hp HF]
  · iapply (leave m c)
    isplitl [Hp] <;> iassumption
  isplitl [HO]; · iapply (owesAt_intro (dat0 m c) t0_0.succ 0 (owed_last m c) rfl); iexact HO
  iempintro

/-! ## The region's record -/

/-- The launch's side conditions. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- Whatever a device owes while the kernel runs goes to a TensorCore cell above level 0. -/
theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  have hb : ∀ c' : Dev nD, 0 < (tallyAt (barCell c') () 1 : CellTallies nD τ sig Unit) g i → i ∈ L g ∧ (0 : ℕ) < lv g i := fun c' h' => by
    rw [tallyAt_apply] at h'
    by_cases hg : g = barCell c' ∧ i = ()
    · rw [hg.1, L_tc]; exact ⟨Finset.mem_singleton_self _, Nat.one_pos⟩
    · rw [if_neg hg] at h'; exact absurd h' (Nat.lt_irrefl 0)
  split at h
  · unfold O₀ at h
    rw [Pi.add_apply, Finsupp.add_apply, Pi.add_apply, Finsupp.add_apply] at h
    rcases Nat.add_pos_iff_pos_or_pos.mp h with h | h
    · exact ⟨(debt_pos h).1, Nat.lt_of_lt_of_le Nat.one_pos (Nat.le_of_lt (debt_pos h).2.1)⟩
    · rcases Nat.add_pos_iff_pos_or_pos.mp h with h | h <;> exact hb _ h
  · exact absurd h (Nat.lt_irrefl 0)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts (cfg0.spec) osem0)
    hbm (Pipeline.ucRefs τ sig) hbm_sub kitP rfl (fun c => (body0 m c).loose)
    (fun _ => 0) O₀ (fun c => (owed_zero m c).trans (zero_add _).symm) (owed_last m) (fun _ => rfl) (fun _ w => w.elim0)
    (V1 m) (Vend m) (fun c b hb => Vend_ne m c b fun e => (Finset.mem_sdiff.mp hb).2 (by rw [e]; decide))
    (Tk m) Yk (Xk m) Yk (hopen0 m) (fun c => Entails.of_eq (phi_zero m c).symm) (fun c => Entails.of_eq (phi_last m c))
    (fun c => by iintro H; imodintro; iexact H)
    (fun _ => 0)
    ⟨fun _ w => w.elim0, fun _ w => w.elim0, fun c t g i h => cutD m c t g i h⟩
    (fun _ => iprop(emp))
    (fun _ w => w.elim0) (fun _ w => w.elim0)

/-- What is held of the arrays, one by one. -/
theorem held_arr (c : Dev nD) (W : Valuation τ sig (Elt F)) :
    (StableHlo.held (c.tc : Thread nD τ) (Pipeline.arrRefs (τ := τ) (pcfgs (F := F) 0).spec) W : sProp 𝕄) = BI.emp := by
  have e : Pipeline.arrRefs (τ := τ) (pcfgs (F := F) 0).spec = ∅ := by
    unfold Pipeline.arrRefs
    rw [Finset.map_eq_empty, Finset.image_eq_empty, Finset.univ_eq_empty]
  rw [e]
  unfold StableHlo.held
  exact BI.bigSep_empty

/-- What rides beside the buffers up to the region, and after it. -/
def rest (j : Fin 2) (c : Dev nD) : sProp 𝕄 :=
  if j = 0 then iprop((∃ r, prngReg c r) ∗ Tk m c ∗ ∃ W, owes (c : Thread nD τ) (O₀ c) W)
  else iprop(semVal (barCell c) 0 ∗ ∃ W, owes (c : Thread nD τ) (0 : CellTallies nD τ sig Unit) W)

/-- What the host holds gives what the call needs. -/
theorem reg0_pre (c : Dev nD) : iprop(StableHlo.held (c : Thread nD τ) (Pipeline.ucRefs τ sig) (V1 m c) ∗ rest m 0 c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (Pipeline.ucRefs τ sig) (V1 m c) ∗ emp) ∗ Tk m c ∗ ∃ Wd, owes (c : Thread nD τ) (0 + O₀ c) Wd)
  rw [held_arr, zero_add]
  unfold rest
  rw [if_pos rfl]
  iintro ⟨Hh, Hp, HT, HO⟩
  isplitr; · iempintro
  isplitl [Hp]; · iexact Hp
  isplitl [Hh]
  · isplitl [Hh]; · iexact Hh
    iempintro
  isplitl [HT] <;> iassumption

/-- What the call leaves gives what the host holds. -/
theorem reg0_post (c : Dev nD) : (reg0 m).post c ⊢ iprop(StableHlo.held (c : Thread nD τ) (Pipeline.ucRefs τ sig) (Vend m c) ∗ rest m 1 c) := by
  show iprop(StableHlo.held (c.tc : Thread nD τ) (Pipeline.arrRefs (τ := τ) (pcfgs (F := F) 0).spec) (Vend m c) ∗ (∃ r, prngReg c r)
    ∗ (StableHlo.held (c.tc : Thread nD τ) (Pipeline.ucRefs τ sig) (Vend m c) ∗ emp) ∗ Yk c ∗ ∃ Wd, owes (c : Thread nD τ) (0 : CellTallies nD τ sig Unit) Wd) ⊢ _
  rw [held_arr]
  unfold Yk rest
  rw [if_neg (by decide)]
  iintro ⟨-, -, ⟨Hh, -⟩, Hb, HO⟩
  isplitl [Hh]; · iexact Hh
  isplitl [Hb] <;> iassumption

end Cert.KernelIdeal.Attn
end
-- ==== Proof.Launch.lean ====
module

public import proofs.«01_k».proof.Proof.Talk

/-! The launch: every cell's invariant made, the copy cells' ones before their counters; tokens and credits dealt; the run. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- Equal semaphore cells lie on equal devices. -/
theorem dev_of_cell {c c' : Dev nD} {x x' : SemLoc sig} (h : ((c : Thread nD τ), x) = ((c' : Thread nD τ), x')) : c = c' :=
  congrArg (fun g : GSem nD τ sig => g.1.1) h
/-- Equal copy-semaphore cells have equal semaphores. -/
theorem dma_of_cell {c c' : Dev nD} {s s' : DmaSem sig} (h : dc (c, s) = dc (c', s')) : s = s' :=
  SemLoc.dma.inj (congrArg Prod.snd h)

def barEmb : Dev nD ↪ GSem nD τ sig := ⟨fun c => barCell c, fun _ _ h => dev_of_cell h⟩
def dmaEmb : Dev nD × DmaSem sig ↪ GSem nD τ sig := ⟨dc, fun _ _ h => Prod.ext (dev_of_cell h) (dma_of_cell h)⟩
abbrev barCells : Finset (GSem nD τ sig) := Finset.univ.map barEmb
abbrev dmaCells : Finset (GSem nD τ sig) := Finset.univ.map dmaEmb

/-- A duty of a device: one of its entry cell's two, or a copy cell's. -/
def dutyAt (c : Dev nD) : Bool ⊕ DmaSem sig → GSem nD τ sig × ℕ × Bool
  | .inl b => (barCell c, 0, b)
  | .inr s => (dc (c, s), 0, true)
/-- Different duties are at different places. -/
theorem dutyAt_inj : Function.Injective fun x : Dev nD × (Bool ⊕ DmaSem sig) => dutyAt x.1 x.2 := by
  rintro ⟨c, b | s⟩ ⟨c', b' | s'⟩ h
  · exact Prod.ext (dev_of_cell (congrArg Prod.fst h)) (congrArg Sum.inl (congrArg (fun y : GSem nD τ sig × ℕ × Bool => y.2.2) h))
  · exact absurd (congrArg (fun y : GSem nD τ sig × ℕ × Bool => y.1.2) h) (fun e => nomatch e)
  · exact absurd (congrArg (fun y : GSem nD τ sig × ℕ × Bool => y.1.2) h) (fun e => nomatch e)
  · exact Prod.ext (dev_of_cell (congrArg Prod.fst h)) (congrArg Sum.inr (dma_of_cell (congrArg Prod.fst h)))
def allToks : Finset (GSem nD τ sig × ℕ × Bool) := Finset.univ.map ⟨_, dutyAt_inj⟩

/-- Barrier cells and copy cells are disjoint. -/
theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact absurd (congrArg Prod.snd h) (fun e => nomatch e)

/-- The launch element: no staging cell; the protocol's cells and tokens. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- A resource kept whole on device 0 until all devices' holdings are together. -/
def park (X : sProp 𝕄) (c : Dev nD) : sProp 𝕄 := if c = 0 then X else iprop(emp)
/-- An assertion parked at device 0 is the product over all devices. -/
theorem park_all (X : sProp 𝕄) : bigSep Finset.univ (park X) = X := by
  rw [bigSep_univ_at _ (0 : Dev nD), bigSep_congr (s := Finset.univ.erase 0) (Ψ := fun _ => (BI.emp : sProp 𝕄))
    fun c hc => by unfold park; rw [if_neg (Finset.ne_of_mem_erase hc)]; rfl, BI.bigSep_emp_const]
  unfold park
  rw [if_pos rfl]
  exact BI.equiv_iff.mp sep_emp
def G : Dev nD → sProp 𝕄 := park (BI.own (ER (launchOf barCells dmaCells allToks)))

/-! ## The tokens, dealt to the devices that pay -/

def exA : Dev nD × Fin 8 ≃ Dev nD × Fin 8 where
  toFun x := (p1 x.1 x.2, x.2)
  invFun x := (p1 x.1 x.2, x.2)
  left_inv x := Prod.ext (p1_p1 x.1 x.2) rfl
  right_inv x := Prod.ext (p1_p1 x.1 x.2) rfl
def exB : Dev nD × Fin 8 ≃ Dev nD × Fin 8 where
  toFun x := (p2 x.1 x.2, x.2)
  invFun x := (p2 x.1 x.2, x.2)
  left_inv x := Prod.ext (p2_p2 x.1 x.2) rfl
  right_inv x := Prod.ext (p2_p2 x.1 x.2) rfl
def eqA : Dev nD ≃ Dev nD := ⟨pa, pa, pa_pa, pa_pa⟩
def eqB : Dev nD ≃ Dev nD := ⟨pb, pb, pb_pb, pb_pb⟩

/-- A family over devices and chunks, each member read at the partner instead. -/
theorem across (e : Dev nD × Fin 8 ≃ Dev nD × Fin 8) (Φ : Dev nD → Fin 8 → sProp 𝕄) :
    bigSep Finset.univ (fun c => bigSep Finset.univ (fun k => Φ c k))
      = bigSep Finset.univ (fun c => bigSep Finset.univ (fun k => Φ (e (c, k)).1 (e (c, k)).2)) := by
  have h := bigSep_univ_equiv e (fun x : Dev nD × Fin 8 => Φ x.1 x.2)
  rw [bigSep_univ_prod, bigSep_univ_prod] at h
  exact h

/-- The tokens of the duties of device `c`'s own cells. -/
def ownToks (c : Dev nD) : sProp 𝕄 :=
  iprop((dutyTok ER (barCell c) 0 true ∗ dutyTok ER (barCell c) 0 false)
    ∗ (dutyTok ER (dc (c, semL 0)) 0 true ∗ dutyTok ER (dc (c, semL 1)) 0 true ∗ dutyTok ER (dc (c, semL 2)) 0 true
      ∗ dutyTok ER (dc (c, semL 3)) 0 true ∗ dutyTok ER (dc (c, semL 4)) 0 true)
    ∗ dutyTok ER (dc (c, semO)) 0 true
    ∗ bigSep Finset.univ (fun k => dutyTok ER (cSA c k) 0 true) ∗ bigSep Finset.univ (fun k => dutyTok ER (cRA c k) 0 true)
    ∗ bigSep Finset.univ (fun k => dutyTok ER (cSB c k) 0 true) ∗ bigSep Finset.univ (fun k => dutyTok ER (cRB c k) 0 true))

/-- The tokens of all the duties, sorted by cell. -/
theorem toks_eq : bigSep allToks (fun x => (dutyTok ER x.1 x.2.1 x.2.2 : sProp 𝕄)) = bigSep Finset.univ fun c : Dev nD => ownToks (F := F) c := by
  unfold allToks
  rw [bigSep_map, bigSep_univ_prod]
  refine bigSep_congr fun c _ => ?_
  have h := BI.bigSep_univ_sum (fun b : Bool ⊕ DmaSem sig => (dutyTok ER (dutyAt c b).1 (dutyAt c b).2.1 (dutyAt c b).2.2 : sProp 𝕄))
  refine h.trans ?_
  have h1 : (bigSep Finset.univ (fun b : Bool => dutyTok ER (barCell c) 0 b) : sProp 𝕄)
      = iprop(dutyTok ER (barCell c) 0 true ∗ dutyTok ER (barCell c) 0 false) :=
    bigSep_univ_eq_bigSepL [true, false] (by decide) (by decide) _
  have h2 := sems_split (F := F) (fun s => dutyTok ER (dc (c, s)) 0 true)
  unfold ownToks
  rw [← h1, ← h2]
  rfl

/-- The tokens of all the devices, handed from the cells' owners to the devices that perform the duties. -/
theorem toks_around : (bigSep Finset.univ fun c : Dev nD => ownToks (F := F) c) = bigSep Finset.univ fun c : Dev nD => devToks (F := F) c := by
  have ha := bigSep_univ_equiv eqA (fun c : Dev nD => (dutyTok ER (barCell c) 0 true : sProp 𝕄))
  have hb := bigSep_univ_equiv eqB (fun c : Dev nD => (dutyTok ER (barCell c) 0 false : sProp 𝕄))
  have hA := across exA (fun c k => (dutyTok ER (cRA c k) 0 true : sProp 𝕄))
  have hB := across exB (fun c k => (dutyTok ER (cRB c k) 0 true : sProp 𝕄))
  simp only [ownToks, devToks, bigSep_sep']
  rw [ha, hb, hA, hB]
  rfl

/-! ## The launch credit -/

/-- What is owed before the first copy, chunk by chunk. -/
theorem debt_zero (c : Dev nD) : debt c 0 = ∑ k : Fin 8, (tallyAt (cRA (p1 c k) k) () N + tallyAt (cRB (p2 c k) k) () N) := by
  have e : debt c 0 = (∑ j ∈ Finset.range 8, due c j) + ∑ j ∈ Finset.range 8, due c (8 + j) := by
    unfold debt
    rw [← Finset.range_eq_Ico, show (16 : ℕ) = 8 + 8 from rfl, Finset.sum_range_add]
  rw [e, Finset.sum_range, Finset.sum_range, Finset.sum_add_distrib]
  exact congrArg₂ (· + ·) (Finset.sum_congr rfl fun k _ => due_A c k) (Finset.sum_congr rfl fun k _ => due_B c k)

/-- One tally at a copy cell, read at a copy cell. -/
theorem tally_dma (c c' : Dev nD) (s s' : DmaSem sig) (n : ℕ) :
    (tallyAt (dc (c, s)) () n : CellTallies nD τ sig Unit) (dc (c', s')) () = if c' = c ∧ s' = s then n else 0 := by
  rw [tallyAt_apply]
  by_cases h : c' = c ∧ s' = s
  · rw [if_pos h, if_pos ⟨by rw [h.1, h.2], rfl⟩]
  · rw [if_neg h, if_neg fun e => h ⟨dev_of_cell e.1, dma_of_cell e.1⟩]
/-- A barrier cell is no copy cell. -/
theorem bar_ne_dma (c c' : Dev nD) (s : DmaSem sig) : barCell c ≠ dc (c', s) := fun e =>
  absurd (congrArg (fun g : GSem nD τ sig => g.2) e) fun h => nomatch h
/-- A tally at a barrier cell counts nothing at a copy cell. -/
theorem tally_bar_dma (c c' : Dev nD) (s' : DmaSem sig) (n : ℕ) : (tallyAt (barCell c) () n : CellTallies nD τ sig Unit) (dc (c', s')) () = 0 := by
  rw [tallyAt_apply, if_neg fun e => bar_ne_dma c c' s' e.1.symm]
/-- A tally at a copy cell counts nothing at a barrier cell. -/
theorem tally_dma_bar (c c' : Dev nD) (s : DmaSem sig) (n : ℕ) : (tallyAt (dc (c, s)) () n : CellTallies nD τ sig Unit) (barCell c') () = 0 := by
  rw [tallyAt_apply, if_neg fun e => bar_ne_dma c' c s e.1]
/-- A tally of one at a barrier cell, read at a barrier cell. -/
theorem tally_bar (c c' : Dev nD) : (tallyAt (barCell c) () 1 : CellTallies nD τ sig Unit) (barCell c') () = if c' = c then 1 else 0 := by
  rw [tallyAt_apply]
  by_cases h : c' = c
  · rw [if_pos h, if_pos ⟨by rw [h], rfl⟩]
  · rw [if_neg h, if_neg fun e => h (dev_of_cell e.1)]

/-- The receive semaphores of the two exchanges differ. -/
theorem RA_ne_RB : ∀ k k' : Fin 8, semRA k ≠ semRB k' := by decide

/-- What a device owes at a cell when it starts. -/
theorem owed_at (d : Dev nD) (g : GSem nD τ sig) : O₀ d g ()
    = (∑ k : Fin 8, ((tallyAt (cRA (p1 d k) k) () N : CellTallies nD τ sig Unit) g () + (tallyAt (cRB (p2 d k) k) () N : CellTallies nD τ sig Unit) g ()))
      + ((tallyAt (barCell (pb d)) () 1 : CellTallies nD τ sig Unit) g () + (tallyAt (barCell (pa d)) () 1 : CellTallies nD τ sig Unit) g ()) := by
  unfold O₀
  rw [debt_zero, Pi.add_apply, Finsupp.add_apply, Finset.sum_apply, Finsupp.finset_sum_apply]
  rfl

/-- What a device owes to a barrier cell: one signal to each neighbour. -/
theorem owed_bar (d c : Dev nD) : O₀ d (barCell c) () = (if c = pb d then 1 else 0) + (if c = pa d then 1 else 0) := by
  rw [owed_at, tally_bar, tally_bar, Finset.sum_eq_zero fun k _ => ?_, Nat.zero_add]
  rw [tally_dma_bar (p1 d k) c (semRA k) N, tally_dma_bar (p2 d k) c (semRB k) N]; rfl

/-- A device's debt at its copy cells only, the entry cells owing nothing there. -/
theorem owed_dma (d c : Dev nD) (s : DmaSem sig) : O₀ d (dc (c, s)) ()
    = ∑ k : Fin 8, ((if c = p1 d k ∧ s = semRA k then N else 0) + (if c = p2 d k ∧ s = semRB k then N else 0)) := by
  rw [owed_at, tally_bar_dma _ c s 1, tally_bar_dma _ c s 1]
  exact (Nat.add_zero _).trans <| Finset.sum_congr rfl fun k _ => congrArg₂ (· + ·) (tally_dma (p1 d k) c (semRA k) s N) (tally_dma (p2 d k) c (semRB k) s N)

/-- What a device owes to a receive semaphore of the first exchange. -/
theorem owed_RA (d c : Dev nD) (k : Fin 8) : O₀ d (cRA c k) () = if d = p1 c k then N else 0 := by
  have hn : ∀ k', ¬ (c = p2 d k' ∧ semRA k = semRB k') := fun k' h => RA_ne_RB k k' h.2
  have e : (c = p1 d k ∧ semRA k = semRA k) ↔ d = p1 c k := ⟨fun h => by rw [h.1, p1_p1], fun h => ⟨by rw [h, p1_p1], rfl⟩⟩
  rw [show cRA c k = dc (c, semRA k) from rfl, owed_dma, Finset.sum_eq_single k]
  · rw [if_neg (hn k)]; exact if_congr e rfl rfl
  · intro k' _ hk
    have h1 : ¬ (c = p1 d k' ∧ semRA k = semRA k') := fun h => hk (semRA_inj h.2.symm)
    rw [if_neg h1, if_neg (hn k')]; rfl
  · exact fun h => absurd (Finset.mem_univ k) h

/-- What a device owes to a receive semaphore of the second exchange. -/
theorem owed_RB (d c : Dev nD) (k : Fin 8) : O₀ d (cRB c k) () = if d = p2 c k then N else 0 := by
  have hn : ∀ k', ¬ (c = p1 d k' ∧ semRB k = semRA k') := fun k' h => RA_ne_RB k' k h.2.symm
  have e : (c = p2 d k ∧ semRB k = semRB k) ↔ d = p2 c k := ⟨fun h => by rw [h.1, p2_p2], fun h => ⟨by rw [h, p2_p2], rfl⟩⟩
  rw [show cRB c k = dc (c, semRB k) from rfl, owed_dma, Finset.sum_eq_single k]
  · rw [if_neg (hn k), Nat.zero_add]; exact if_congr e rfl rfl
  · intro k' _ hk
    have h1 : ¬ (c = p2 d k' ∧ semRB k = semRB k') := fun h => hk (semRB_inj h.2.symm)
    rw [if_neg h1, if_neg (hn k')]; rfl
  · exact fun h => absurd (Finset.mem_univ k) h

/-- Each barrier is owed two signals. -/
theorem sum_bar : ∀ c : Dev nD, ∑ d : Dev nD, ((if c = pb d then 1 else 0) + (if c = pa d then 1 else 0)) = 2 := by decide

/-- Over all devices, a barrier cell is owed its two signals. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c]
  exact sum_bar c
/-- Over all devices, a receive cell of the first exchange is owed one copy. -/
theorem launch_RA (c : Dev nD) (k : Fin 8) :
    tallyOn (cRA c k) (launchCredit (Pipeline.owing O₀) 0 (cRA c k)) = (tallyAt (cRA c k) () N : CellTallies nD τ sig Unit) := by
  unfold tallyAt; refine congrArg _ (Finsupp.ext fun u => ?_); cases u
  rw [Pipeline.launchCredit_owing, Finsupp.single_eq_same, Finset.sum_congr rfl fun d _ => owed_RA d c k,
    Finset.sum_ite_eq' Finset.univ (p1 c k) fun _ => N, if_pos (Finset.mem_univ _)]
/-- Over all devices, a receive cell of the second exchange is owed one copy. -/
theorem launch_RB (c : Dev nD) (k : Fin 8) :
    tallyOn (cRB c k) (launchCredit (Pipeline.owing O₀) 0 (cRB c k)) = (tallyAt (cRB c k) () N : CellTallies nD τ sig Unit) := by
  unfold tallyAt; refine congrArg _ (Finsupp.ext fun u => ?_); cases u
  rw [Pipeline.launchCredit_owing, Finsupp.single_eq_same, Finset.sum_congr rfl fun d _ => owed_RB d c k,
    Finset.sum_ite_eq' Finset.univ (p2 c k) fun _ => N, if_pos (Finset.mem_univ _)]

def dmaLoc : DmaSem sig ↪ SemLoc sig := ⟨.dma, fun _ _ h => SemLoc.dma.inj h⟩

/-- The launch credit at device `c`'s cells is what its waits consume. -/
theorem creds_intro (c : Dev nD) : (Pipeline.launchCred O₀ c : sProp 𝕄) ⊢ creds c := by
  unfold Pipeline.launchCred creds
  have hs : Finset.univ.map dmaLoc ⊆ (Finset.univ : Finset (SemLoc sig)).erase (SemLoc.reg barS) := fun x hx => by
    obtain ⟨s, -, rfl⟩ := Finset.mem_map.mp hx
    exact Finset.mem_erase.mpr ⟨(fun e => nomatch e), Finset.mem_univ _⟩
  rw [bigSep_univ_at _ (SemLoc.reg barS), launch_bar]
  refine sep_mono_right ((bigSep_subset hs).trans ?_)
  rw [bigSep_map, sems_split]
  have hA : (bigSep Finset.univ (fun k => cred (tallyOn (cRA c k) (launchCredit (Pipeline.owing O₀) 0 (cRA c k)))) : sProp 𝕄)
      = bigSep Finset.univ (fun k => cred (tallyAt (cRA c k) () N)) := bigSep_congr fun k _ => by rw [launch_RA]
  have hB : (bigSep Finset.univ (fun k => cred (tallyOn (cRB c k) (launchCredit (Pipeline.owing O₀) 0 (cRB c k)))) : sProp 𝕄)
      = bigSep Finset.univ (fun k => cred (tallyAt (cRB c k) () N)) := bigSep_congr fun k _ => by rw [launch_RB]
  rw [← hA, ← hB]
  show (_ : sProp 𝕄) ⊢ _
  iintro ⟨-, -, -, HA, -, HB⟩
  isplitl [HA]; · iexact HA
  iexact HB

/-! ## The launch's first state -/

/-- The records every device may consult. -/
def records (κ : GSem nD τ sig → ℕ) : sProp 𝕄 :=
  iprop((bigSep (barCells ∪ dmaCells) fun g => cellInv ER (Rd m) (κ g) g) ∗ bigSep barCells fun g => reached ER g 0)
instance records_persistent (κ : GSem nD τ sig → ℕ) : BI.Persistent (records m κ) := by unfold records; infer_instance

/-- The invariants of all cells, from those of the barriers and of the copies. -/
theorem invs_of (κ : GSem nD τ sig → ℕ) : (bigSep (barCells ∪ dmaCells) fun g => (cellInv ER (Rd m) (κ g) g : sProp 𝕄)) = Invs m κ := by
  rw [sep_union disjoint_cells, bigSep_map, bigSep_map]; rfl
/-- Every barrier is in its first round. -/
theorem reached_bar (c : Dev nD) : (bigSep barCells fun g => (reached ER g 0 : sProp 𝕄)) ⊢ reached ER (barCell c) 0 :=
  bigSep_elim (Finset.mem_map_of_mem barEmb (Finset.mem_univ c))

/-- What of the protocol stays with device `c`. -/
def own0 (c : Dev nD) : sProp 𝕄 :=
  iprop(atPos ER (barCell c) 0 ∅ 0 ∗ bigSep Finset.univ (fun s : DmaSem sig => openTok ER (dc (c, s))) ∗ devToks (F := F) c)

/-- What a device is given at launch, first part. -/
theorem ghost_intro (κ : GSem nD τ sig → ℕ) (c : Dev nD) : iprop(records m κ ∗ own0 (F := F) c) ⊢ iprop(∃ K, ghost m K c) := by
  unfold records own0 ghost
  rw [invs_of]
  iintro ⟨⟨#HI, #HR⟩, Hat, Ho, Ht⟩
  iexists κ
  isplitr; · iexact HI
  isplitr
  · isplitr
    · iapply (reached_bar (F := F) (pa c)); iexact HR
    · iapply (reached_bar (F := F) (pb c)); iexact HR
  isplitl [Hat]; · iexact Hat
  isplitl [Ho] <;> iassumption

/-- The rest of a device's launch holdings. -/
def other (c : Dev nD) : sProp 𝕄 := iprop(creds (F := F) c ∗ owes (c : Thread nD τ) (O₀ c) ∅ ∗ ∃ r, prngReg c r)

/-- What a device is given at launch, the rest. -/
theorem rest_intro (κ : GSem nD τ sig → ℕ) (c : Dev nD) : iprop(records m κ ∗ (own0 (F := F) c ∗ other (F := F) c)) ⊢ rest m 0 c := by
  unfold other rest Tk
  rw [if_pos rfl]
  iintro ⟨#HR, Hl, Hc, HO, Hp⟩
  isplitl [Hp]; · iexact Hp
  isplitl [Hl Hc]
  · isplitl [Hl]
    · iapply (ghost_intro m κ c)
      isplitr; · iexact HR
      iexact Hl
    iexact Hc
  iexists ∅; iexact HO

/-- The barrier is the only semaphore that lives outside the call. -/
theorem unscoped_one : (Finset.univ.filter fun sm : SemLoc sig => ¬ sm.isScoped .tc) = {SemLoc.reg barS} := by decide
/-- The semaphores outside the call are the barrier alone. -/
theorem unscopedSems_eq (c : Dev nD) : (unscopedSems0 c : sProp 𝕄) = semVal (barCell c) 0 := by
  unfold unscopedSems0
  rw [unscoped_one, BI.bigSep_singleton]

/-- The state at launch, brought into the form that the devices share. -/
theorem init0 :
    iprop((bigSep Finset.univ fun c : Dev nD => iprop(unscopedSems0 c ∗ owes (c : Thread nD τ) (O₀ c) ∅ ∗ Pipeline.launchCred O₀ c ∗ prngReg c (ρ c) ∗ G c))
        ∗ levAts L lv)
      ⊢ (|={Set.univ}=> bigSep Finset.univ (rest m 0) : sProp 𝕄) := by
  have hcore : (bigSep Finset.univ fun c : Dev nD => iprop(unscopedSems0 c ∗ owes (c : Thread nD τ) (O₀ c) ∅ ∗ Pipeline.launchCred O₀ c ∗ prngReg c (ρ c) ∗ G c))
      ⊢ (iprop(bigSep Finset.univ (fun c : Dev nD => other (F := F) c) ∗ bigSep Finset.univ (fun c : Dev nD => semVal (barCell c) 0)
        ∗ bigSep Finset.univ (park (BI.own (ER (launchOf barCells dmaCells allToks))))) : sProp 𝕄) := by
    rw [← bigSep_sep', ← bigSep_sep']
    refine bigSep_mono fun c _ => ?_
    show (_ : sProp 𝕄) ⊢ _
    rw [unscopedSems_eq]
    unfold other G
    iintro ⟨Hv, HO, Hc, Hp, HG⟩
    ihave Hc := (creds_intro (F := F) c) $$ Hc
    isplitl [HO Hc Hp]
    · isplitl [Hc]; · iexact Hc
      isplitl [HO]; · iexact HO
      iexists (ρ c); iexact Hp
    isplitl [Hv] <;> iassumption
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hopen : bigSep dmaCells (fun g => (openTok ER g : sProp 𝕄))
      = bigSep Finset.univ (fun c : Dev nD => bigSep Finset.univ (fun s : DmaSem sig => openTok ER (dc (c, s)))) := by
    rw [bigSep_map, bigSep_univ_prod]; rfl
  have hown : (bigSep Finset.univ fun c : Dev nD => iprop(own0 (F := F) c ∗ other (F := F) c))
      = iprop((bigSep barCells (fun g => (atPos ER g 0 ∅ 0 : sProp 𝕄)) ∗ bigSep dmaCells (fun g => (openTok ER g : sProp 𝕄))
          ∗ bigSep allToks (fun x => (dutyTok ER x.1 x.2.1 x.2.2 : sProp 𝕄))) ∗ bigSep Finset.univ (fun c : Dev nD => other (F := F) c)) := by
    rw [hat, hopen, toks_eq, toks_around]
    unfold own0
    iterate 3 rw [bigSep_sep']
  iintro ⟨H, -⟩
  ihave H := hcore $$ H
  icases H with ⟨HB, Hv, HG⟩
  ihave Hu := (Entails.of_eq (park_all (F := F) (BI.own (ER (launchOf barCells dmaCells allToks))))) $$ HG
  imod (Rounds.fund_launch ER (Rd m) disjoint_cells (fun g _ h => h) allToks) $$ [Hv Hu] with ⟨%κ, -, #Hinv, #Hr, Hat, Hopen, Htok⟩
  · isplitl [Hv]
    · iapply (Entails.of_eq hv) $$ Hv
    · iexact Hu
  imodintro
  iapply (bigSep_with_persistent (R := records m κ) (Φ := fun c => iprop(own0 (F := F) c ∗ other (F := F) c)) fun c _ => rest_intro m κ c)
  isplitr
  · unfold records
    isplitr; · iexact Hinv
    iexact Hr
  iapply (Entails.of_eq hown.symm)
  isplitr [HB]
  · isplitl [Hat]; · iexact Hat
    isplitl [Hopen] <;> iassumption
  iexact HB

/-! ## The run -/

/-- A semaphore that lives outside the call is the barrier. -/
theorem unscoped_eq : ∀ sm : SemLoc sig, sm.isScoped .tc = false → sm = .reg barS := by decide

/-- A buffer at the end, read off the last valuation. -/
theorem Vend_arg (c : Dev nD) (r : Ref sig .tc) (h : r ∉ hostOps0_W) (h' : (Proc.devRef .tc r : DevRef τ sig) ≠ Proc.devRef .tc main_v19) :
    Vend m c r = m ((c : Thread nD τ).loc r) :=
  (Vend_ne m c _ h').trans ((V1_of m c r h).trans rfl)

set_option backward.isDefEq.respectTransparency.types false in
/-- The run: every fair execution ends, with every counter at zero, every argument as launched and each device's result at the
    contents the tables give. -/
theorem run_main : θ_run defs (onTc (τ := τ) (main (F := F))) ⟨m, fun _ => 0, ρ⟩
    (fun r => (∀ c : Dev nD, r.2.mem ((c : Thread nD τ).loc main_v19) = A2 m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (reg0 m))
    (fun c Q => by
      rewrite [main_chain c, Seg.run_eq_chain,
        show (segs m 𝒱₀ L lv (rest m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G (u₀ (F := F)) ?_
    (T₀ := fun c => iprop(StableHlo.held (c : Thread nD τ) (Pipeline.ucRefs τ sig) (V0 m c) ∗ rest m 0 c))
    (Tₙ := fun c => iprop(StableHlo.held (c : Thread nD τ) (Pipeline.ucRefs τ sig) (Vend m c) ∗ semVal (barCell c) 0))
    (hch := fun c => ⟨.rfl, reg0_pre m c, (reg0_post m c).trans ?_⟩)
    (hinit := ?_) (QY := fun c s => (∀ b ∈ Pipeline.ucRefs τ sig, s.mem ((c : Thread nD τ).1, b) = Vend m c b) ∧ s.sem (barCell c) = 0)
    (hfin := fun c s' => ?_) (hQ := fun s h hs => ⟨fun c => ?_, ?_⟩)
  · unfold u₀ G
    iintro Hu
    ihave H := (ownU_pair _ _) $$ Hu
    icases H with ⟨HP, HX⟩
    imodintro
    isplitl [HP]; · iexact HP
    rw [park_all]; iexact HX
  · unfold rest
    rw [if_neg (by decide)]
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        = (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_congr fun c _ => by rw [← Pipeline.unscopedBufs_held (Ix := Unit) (Name := ℕ) (U := UU) (Lvl := ℕ) c (V0 m c)]
    iintro ⟨H, Hla⟩
    ihave H := (Entails.of_eq hsplit) $$ H
    icases H with ⟨Hh, Hr⟩
    imod (init0 m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨h, by simpa using hb⟩
    · iexact HSI
  · have hr := (h c).1
    have hm : ∀ r : Ref sig .tc, (Proc.devRef (τ := τ) .tc r).isScoped = false → Proc.devRef .tc r ∈ Pipeline.ucRefs τ sig := fun r h =>
      Finset.mem_filter.mpr ⟨StableHlo.devRef_mem_tcRefs r, by simp [h]⟩
    exact ⟨(hr _ (hm main_v19 (by decide))).trans (Vend_v19 m c),
      (hr _ (hm main_arg0 (by decide))).trans (Vend_arg m c main_arg0 (by decide) (by decide)),
      (hr _ (hm main_arg1 (by decide))).trans (Vend_arg m c main_arg1 (by decide) (by decide)),
      (hr _ (hm main_arg2 (by decide))).trans (Vend_arg m c main_arg2 (by decide) (by decide)),
      (hr _ (hm main_arg3 (by decide))).trans (Vend_arg m c main_arg3 (by decide) (by decide)),
      (hr _ (hm main_arg4 (by decide))).trans (Vend_arg m c main_arg4 (by decide) (by decide))⟩
  · exact sem_eq_zero hs fun c sm hsm => by
      obtain rfl := unscoped_eq sm hsm
      exact (h c).2

end Cert.KernelIdeal.Attn
end
-- ==== Proof.Frames.lean ====
module

public import proofs.«01_k».proof.Proof.Launch
public import proofs.«01_k».proof.Proof.Gen.Kernel
public import proofs.«01_k».proof.Proof.Gen.ReferenceIdeal.Run
public import proofs.«01_k».proof.Defs

/-! The three frames: the run of the devices read at both instances, and the reference's own run. -/

@[expose] public section

noncomputable section

namespace Cert.KernelIdeal.Attn

open Idealize.ShloMosaic Idealize.SL.Sem

/-- The kernel as printed, read at bit patterns: the run with the results' values dropped. -/
theorem frame_kernel : Cert.quiescent_Kernel := fun m ρ _ =>
  (θ_run (Cert.KernelIdeal.defs (F := Bits)) _ _).mono (fun _ h => ⟨fun c => (h.1 c).2, h.2⟩) (run_main (F := Bits) m ρ)

/-- The kernel read at exact values. -/
theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- The reference: a host program without a semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

end Cert.KernelIdeal.Attn
end
-- ==== Proof.Attend.lean ====
module

public import Idealize.ShloMosaic.Lib.Pointwise
public import Idealize.ShloMosaic.Lib.IdealHost

/-! A row of attention in the extended reals, computed two ways: over all keys with the excluded ones at −∞ and the
    row's maximum subtracted, and over the allowed keys alone with nothing subtracted. For real scores the two agree. -/

@[expose] public section

noncomputable section

namespace Cert.Attend

open Idealize.ShloMosaic

/-- A sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a family with a real member and no member `⊤` is real. -/
theorem fold_max_real {ι : Type} [Fintype ι] (t : ι → EReal) (i₀ : ι) (h₀ : t i₀ ≠ ⊥) (ht : ∀ i, t i ≠ ⊤) :
    ∃ μ : ℝ, Finset.univ.fold max (⊥ : EReal) t = (μ : EReal) := by
  have hlt : Finset.univ.fold max (⊥ : EReal) t < ⊤ :=
    (Finset.fold_max_lt (s := Finset.univ) (b := (⊥ : EReal)) (f := t) ⊤).2 ⟨bot_lt_top, fun i _ => lt_top_iff_ne_top.2 (ht i)⟩
  have hle : t i₀ ≤ Finset.univ.fold max (⊥ : EReal) t :=
    (Finset.le_fold_max (s := Finset.univ) (b := (⊥ : EReal)) (f := t) (t i₀)).2 (Or.inr ⟨i₀, Finset.mem_univ _, le_rfl⟩)
  refine ⟨(Finset.univ.fold max (⊥ : EReal) t).toReal, (EReal.coe_toReal hlt.ne fun h => h₀ ?_).symm⟩
  exact le_bot_iff.1 (h ▸ hle)

/-- A sum over the members of a family with a property is the sum over an injective listing of them. -/
theorem sum_listed {ι κ M : Type} [Fintype ι] [Fintype κ] [AddCommMonoid M] (g : κ → ι) (hg : Function.Injective g)
    (p : ι → Prop) [DecidablePred p] (hp : ∀ j, p j ↔ ∃ k, g k = j) (f : ι → M) :
    ∑ j, (if p j then f j else 0) = ∑ k, f (g k) := by
  classical
  rw [← Finset.sum_filter, ← Finset.sum_image (s := Finset.univ) (f := f) (g := g) fun a _ b _ h => hg h]
  exact Finset.sum_congr (by ext j; simp [hp]) fun _ _ => rfl

/-- Subtracting one real number from every score changes no weight. -/
theorem weight_shift {κ : Type} [Fintype κ] [Nonempty κ] (s : κ → ℝ) (μ : ℝ) (k : κ) :
    Real.exp (s k - μ) / ∑ j, Real.exp (s j - μ) = Real.exp (s k) * (1 / ∑ j, Real.exp (s j)) := by
  have hZ : (∑ j, Real.exp (s j)) ≠ 0 := (Finset.sum_pos (fun j _ => Real.exp_pos _) Finset.univ_nonempty).ne'
  have hμ : Real.exp μ ≠ 0 := (Real.exp_pos μ).ne'
  simp only [Real.exp_sub, ← Finset.sum_div]
  field_simp

/-- A quotient of real numbers by a nonzero one, in the extended reals. -/
theorem div_coe_coe (a b : ℝ) (hb : b ≠ 0) : Ideal.div (a : EReal) (b : EReal) = ((a / b : ℝ) : EReal) := by
  rw [Ideal.div_coe hb, ← EReal.coe_mul, mul_one_div]

/-- One row of attention: the keys with `p` are listed by `g`, the scores are real, the values are any extended reals. -/
theorem attend {ι κ : Type} [Fintype ι] [Fintype κ] [Nonempty κ] (s : ι → ℝ) (g : κ → ι) (hg : Function.Injective g)
    (p : ι → Prop) [DecidablePred p] (hp : ∀ j, p j ↔ ∃ k, g k = j) (V : ι → EReal) (t : ι → EReal)
    (ht : ∀ j, t j = if p j then (s j : EReal) else ⊥) :
    ∑ j, V j * Ideal.div (Ideal.exp (t j - Finset.univ.fold max ⊥ t)) (∑ j', Ideal.exp (t j' - Finset.univ.fold max ⊥ t))
      = ∑ k, Ideal.exp (s (g k) : EReal) * Ideal.div 1 (∑ k', Ideal.exp (s (g k') : EReal)) * V (g k) := by
  obtain ⟨k₀⟩ := ‹Nonempty κ›
  obtain ⟨μ, hμ⟩ := fold_max_real t (g k₀) (by rw [ht, if_pos ((hp _).2 ⟨k₀, rfl⟩)]; exact EReal.coe_ne_bot _)
    (fun j => by rw [ht]; split; exacts [EReal.coe_ne_top _, bot_ne_top])
  rw [hμ]
  have he : ∀ j, Ideal.exp (t j - (μ : EReal)) = ((if p j then Real.exp (s j - μ) else 0 : ℝ) : EReal) := fun j => by
    rw [ht]
    split
    · rw [← EReal.coe_sub, Ideal.exp_coe]
    · rw [EReal.bot_sub]; rfl
  have hZ : (∑ k, Real.exp (s (g k) - μ)) ≠ 0 := (Finset.sum_pos (fun j _ => Real.exp_pos _) Finset.univ_nonempty).ne'
  have hZ' : (∑ k, Real.exp (s (g k))) ≠ 0 := (Finset.sum_pos (fun j _ => Real.exp_pos _) Finset.univ_nonempty).ne'
  simp only [he, ← coe_sum, sum_listed g hg p hp, div_coe_coe _ _ hZ, Ideal.exp_coe]
  rw [← EReal.coe_one, div_coe_coe _ _ hZ', ← sum_listed g hg p hp (fun j => ((Real.exp (s j) : ℝ) : EReal)
    * ((1 / ∑ k, Real.exp (s (g k)) : ℝ) : EReal) * V j)]
  refine Finset.sum_congr rfl fun j _ => ?_
  by_cases h : p j
  · obtain ⟨k, rfl⟩ := (hp j).1 h
    rw [if_pos h, if_pos h, weight_shift (fun k => s (g k)) μ k, mul_comm, EReal.coe_mul]
  · rw [if_neg h, if_neg h, zero_div, EReal.coe_zero, mul_zero]

/-- A linear score of real numbers, the scale applied to the weights or to the score. -/
theorem score_scale {n e : ℕ} (x : Fin n → ℝ) (w : Fin n → Fin e → ℝ) (k : Fin e → ℝ) (c : ℝ) :
    (∑ a : Fin e, (∑ d : Fin n, (x d : EReal) * ((w d a : EReal) * (c : EReal))) * (k a : EReal)
        = ((∑ a : Fin e, (∑ d : Fin n, x d * w d a) * k a) * c : ℝ))
      ∧ ((∑ a : Fin e, (∑ d : Fin n, (x d : EReal) * (w d a : EReal)) * (k a : EReal)) * (c : EReal)
        = ((∑ a : Fin e, (∑ d : Fin n, x d * w d a) * k a) * c : ℝ)) := by
  constructor
  · simp only [← EReal.coe_mul, ← coe_sum]
    refine congrArg _ ?_
    rw [Finset.sum_mul]
    refine Finset.sum_congr rfl fun a _ => ?_
    rw [Finset.sum_mul, Finset.sum_mul, Finset.sum_mul]
    exact Finset.sum_congr rfl fun d _ => by ring
  · simp only [← EReal.coe_mul, ← coe_sum]

end Cert.Attend
end
-- ==== Proof.HeadValue.lean ====
module

public import proofs.«01_k».proof.Proof.Contents
public import Idealize.ShloMosaic.Lib.Pointwise
public import Idealize.ShloMosaic.Lib.IdealHost

/-! What one device computes, read at an index in the extended reals. -/

@[expose] public section

set_option maxRecDepth 16384

noncomputable section

namespace Cert.KernelIdeal.Attn

open Idealize.ShloMosaic Idealize.ShloMosaic.TcCoe
open Cert.KernelIdeal Cert.KernelIdeal.Gen

/-! ## One row of attention over listed keys -/

/-- One row of attention over the keys that `g` lists: query row `q`, key rows `k`, one column `v` of the values. -/
def attRow {κ : Type} [Fintype κ] (g : κ → Fin 256) (q : Fin 64 → EReal) (k : Fin 256 → Fin 64 → EReal) (v : Fin 256 → EReal) : EReal :=
  ∑ x, Ideal.exp (∑ a, q a * k (g x) a) * Ideal.div 1 (∑ x', Ideal.exp (∑ a, q a * k (g x') a)) * v (g x)

/-- The keys of query rows 64–191: 0–191. -/
def midKeys (x : Fin 192) : Fin 256 := ⟨x.val, by omega⟩
/-- The keys of the other query rows: 0–63 and 192–255. -/
def endKeys : Fin 64 ⊕ Fin 64 → Fin 256
  | .inl x => ⟨x.val, by omega⟩
  | .inr x => ⟨192 + x.val, by omega⟩

/-- Row `r` of the middle rows is query row `64 + r` over keys 0–191. -/
theorem midOut_apply (q k v : FVec Ideal S256x64 .bf16) (r : Fin 128) (e : Fin 64) :
    midOut q k v (ix2 r e) = attRow midKeys (fun a => q (ix2 (⟨64 + r.val, by omega⟩ : Fin 256) a)) (fun j a => k (ix2 j a)) (fun j => v (ix2 j e)) := by
  pointwise [midOut, softA, first192]
  rfl

/-- Row `r` of the end rows is query row `r` or `192 + (r − 64)`, over keys 0–63 and 192–255. -/
theorem endOut_apply (q k v : FVec Ideal S256x64 .bf16) (r : Fin 128) (r' : Fin 256) (e : Fin 64)
    (h : (r.val < 64 ∧ r'.val = r.val) ∨ (64 ≤ r.val ∧ r'.val = 192 + (r.val - 64))) :
    endOut q k v (ix2 r e) = attRow endKeys (fun a => q (ix2 r' a)) (fun j a => k (ix2 j a)) (fun j => v (ix2 j e)) := by
  simp only [attRow, Fintype.sum_sum_type]
  pointwise [endOut, softB, ends]
  rcases h with ⟨h, h'⟩ | ⟨h, h'⟩
  · simp only [dif_pos h]
    obtain ⟨r', hr'⟩ := r'
    subst h'
    rfl
  · simp only [dif_neg (not_lt.2 h)]
    obtain ⟨r', hr'⟩ := r'
    subst h'
    rfl

/-- Rows 64–191 of one head. -/
theorem headCore_mid (q k v : FVec Ideal S256x64 .bf16) (r : Fin 256) (e : Fin 64) (h : 64 ≤ r.val ∧ r.val < 192) :
    headCore q k v (ix2 r e) = attRow midKeys (fun a => q (ix2 r a)) (fun j a => k (ix2 j a)) (fun j => v (ix2 j e)) := by
  pointwise [headCore]
  rw [dif_neg (by omega), dif_pos (by omega), midOut_apply]
  congr 1; funext a
  exact congrArg (fun z => q (ix2 z a)) (Fin.ext (by show 64 + (r.val - 64) = r.val; omega))

/-- The other rows of one head. -/
theorem headCore_end (q k v : FVec Ideal S256x64 .bf16) (r : Fin 256) (e : Fin 64) (h : r.val < 64 ∨ 192 ≤ r.val) :
    headCore q k v (ix2 r e) = attRow endKeys (fun a => q (ix2 r a)) (fun j a => k (ix2 j a)) (fun j => v (ix2 j e)) := by
  pointwise [headCore]
  rcases h with h | h
  · rw [dif_pos h]
    exact endOut_apply q k v _ r e (.inl ⟨h, rfl⟩)
  · rw [dif_neg (by omega), dif_neg (by omega)]
    exact endOut_apply q k v _ r e (.inr ⟨by show 64 ≤ 64 + (r.val - 64 - 128); omega, by show r.val = 192 + (64 + (r.val - 64 - 128) - 64); omega⟩)

/-- One row of attention of query row `r`: over the keys that its 64-row block may see. -/
def row (r : Fin 256) (q : Fin 64 → EReal) (k : Fin 256 → Fin 64 → EReal) (v : Fin 256 → EReal) : EReal :=
  if 64 ≤ r.val ∧ r.val < 192 then attRow midKeys q k v else attRow endKeys q k v

/-- One head at any row. -/
theorem headCore_apply (q k v : FVec Ideal S256x64 .bf16) (r : Fin 256) (e : Fin 64) :
    headCore q k v (ix2 r e) = row r (fun a => q (ix2 r a)) (fun j a => k (ix2 j a)) (fun j => v (ix2 j e)) := by
  unfold row
  split
  · exact headCore_mid q k v r e ‹_›
  · exact headCore_end q k v r e (by omega)

/-! ## The heads and the partial product -/

/-- Column `a` of head `h` among a device's 256 columns. -/
def col (h : Fin 4) (a : Fin 64) : Fin 256 := ⟨64 * h.val + a.val, by omega⟩

/-- The columns of one head. -/
theorem colS_apply {α : Type} (h : Fin 4) (v : S256x256.Idx → α) (r : Fin 256) (a : Fin 64) :
    colS h v (ix2 r a) = v (ix2 r (col h a)) := by
  pointwise [colS]
  rfl

/-- A head's output. -/
theorem headOut_apply (h : Fin 4) (qa : FVec Ideal S256x256 .f32) (kb vb : Vec Ideal S1x256x256 .bf16) (r : Fin 256) (e : Fin 64) :
    headOut h qa kb vb (ix2 r e) = row r (fun a => qa (ix2 r (col h a))) (fun j a => kb (ix3 0 j (col h a))) (fun j => vb (ix3 0 j (col h e))) := by
  rw [headOut, headCore_apply]
  simp only [colS_apply]
  pointwise
  simp only [colS_apply]

/-- The four heads side by side, at a column of head `h`. -/
theorem ctxOf_apply (h : Fin 4) (qa : FVec Ideal S256x256 .f32) (kb vb : Vec Ideal S1x256x256 .bf16) (r : Fin 256) (e : Fin 64) :
    ctxOf qa kb vb (ix2 r (col h e)) = headOut h qa kb vb (ix2 r e) := by
  pointwise [ctxOf, col]
  have hE := e.isLt
  have hr : ∀ (g : Fin 4) (z : Fin 64), g = h → z = e → headOut g qa kb vb (ix2 r z) = headOut h qa kb vb (ix2 r e) :=
    fun _ _ hg hz => by rw [hg, hz]
  split
  · exact hr _ _ (Fin.ext (by show 0 = h.val; omega)) (Fin.ext (by show _ = e.val; simp only; omega))
  split
  · exact hr _ _ (Fin.ext (by show 1 = h.val; omega)) (Fin.ext (by show _ = e.val; simp only; omega))
  split
  · exact hr _ _ (Fin.ext (by show 2 = h.val; omega)) (Fin.ext (by show _ = e.val; simp only; omega))
  · exact hr _ _ (Fin.ext (by show 3 = h.val; omega)) (Fin.ext (by show _ = e.val; simp only; omega))

/-- The projected queries. -/
theorem qOf_apply (xb : Vec Ideal S1x256x512 .f32) (wq : Vec Ideal S512x256 .f32) (r c : Fin 256) :
    qOf xb wq (ix2 r c) = ∑ d : Fin 512, xb (ix3 0 r d) * (wq (ix2 d c) * Ideal.ofBits .f32 0x3E000000#32) := by
  pointwise [qOf, k0_pay2, k0_pay4]

/-- 128 rows of the output product. -/
theorem tile_apply (h : Fin 2) (ctx : FVec Ideal S256x256 .bf16) (wo : Vec Ideal S256x512 .f32) (r : Fin 128) (n : Fin 512) :
    tile h ctx wo (ix2 r n) = ∑ E : Fin 256, ctx (ix2 (⟨128 * h.val + r.val, by omega⟩ : Fin 256) E) * wo (ix2 E n) := by
  pointwise [tile, k0_pay3]

variable (m : (ℓ : Loc nD τ sig) → Buf (Elt Ideal) ℓ)

/-- A device's partial product at row `r` of batch `b`, column `n`. -/
theorem A0_apply (c : Dev nD) (b : Fin 2) (r : Fin 256) (n : Fin 512) :
    A0 m c (ix3 b r n) = ∑ E : Fin 256, ctxC m c b (ix2 r E) * woC m c (ix2 E n) := by
  have hi : inTile (ix3 b r n) = ix2 (⟨r.val % 128, Nat.mod_lt _ (by decide)⟩ : Fin 128) n := by
    funext a; match a with
    | 0 => rfl
    | 1 => rfl
  rw [A0, tileC, hi, tile_apply]
  refine Finset.sum_congr rfl fun E _ => ?_
  congr 2
  exact congrArg (fun z => ix2 z E) (Fin.ext (Nat.div_add_mod r.val 128))

/-- The result: the sum of the four devices' partial products. -/
theorem A2_apply (c : Dev nD) (i : S2x256x512.Idx) : A2 m c i = ∑ d : Dev nD, A0 m d i := by
  show (A0 m c i + A0 m (p1 c (chunk i)) i) + (A0 m (p2 c (chunk i)) i + A0 m (p1 (p2 c (chunk i)) (chunk i)) i) = _
  have hu : (Finset.univ : Finset (Dev nD)) = {c, p1 c (chunk i), p2 c (chunk i), p1 (p2 c (chunk i)) (chunk i)} := by
    generalize chunk i = k
    revert c k; decide
  rw [hu]
  have hn : ∀ (c : Dev nD) (k : Fin 8), c ≠ p1 c k ∧ c ≠ p2 c k ∧ c ≠ p1 (p2 c k) k ∧ p1 c k ≠ p2 c k ∧ p1 c k ≠ p1 (p2 c k) k
      ∧ p2 c k ≠ p1 (p2 c k) k := by decide
  obtain ⟨h1, h2, h3, h4, h5, h6⟩ := hn c (chunk i)
  rw [Finset.sum_insert (by simp [h1, h2, h3]), Finset.sum_insert (by simp [h4, h5]), Finset.sum_insert (by simp [h6]), Finset.sum_singleton,
    add_assoc]

end Cert.KernelIdeal.Attn
end
-- ==== Proof.DeviceValue.lean ====
module

public import proofs.«01_k».proof.Proof.HeadValue

/-! What a device's inputs of the kernel hold, and its partial product in terms of the arguments. -/

@[expose] public section

set_option maxRecDepth 16384

noncomputable section

namespace Cert.KernelIdeal.Attn

open Idealize.ShloMosaic Idealize.ShloMosaic.TcCoe Idealize.ShloMosaic.StableHlo
open Cert.KernelIdeal Cert.KernelIdeal.Gen

variable {F : FTy → Type} [FloatOps F] (m : (ℓ : Loc nD τ sig) → Buf (Elt F) ℓ)

/-- The first head of device `c`, as the program computes it. -/
def headWord (c : Dev nD) : IVec S_ 32 :=
  select (cmpi .slt (muli (Host.remui (Host.divui (constantI S_ 32 (Dev.word c)) (constantI S_ 32 1#32)) (constantI S_ 32 4#32)) (constantI S_ 32 4#32)) (constantI S_ 32 0#32))
    (addi (muli (Host.remui (Host.divui (constantI S_ 32 (Dev.word c)) (constantI S_ 32 1#32)) (constantI S_ 32 4#32)) (constantI S_ 32 4#32)) (constantI S_ 32 16#32))
    (muli (Host.remui (Host.divui (constantI S_ 32 (Dev.word c)) (constantI S_ 32 1#32)) (constantI S_ 32 4#32)) (constantI S_ 32 4#32))

/-- It is four times the device number. -/
theorem headWord_toInt : ∀ c : Dev nD, (headWord c (Shape.Idx.first h_S_)).toInt = 4 * (c.val : ℤ) := by decide

/-- The four heads of device `c`, out of a block of sixteen. -/
def headsOf {α : Type} (c : Dev nD) (x : S2x256x16x64.Idx → α) : S2x256x256.Idx → α :=
  shapeCast S2x256x256 (Host.dynamicSlice S2x256x4x64 x
    (fun k => ((![constantI S_ 32 0#32, constantI S_ 32 0#32, headWord c, constantI S_ 32 0#32] : Fin 4 → IVec S_ 32) k (Shape.Idx.first h_S_)).toInt)
      sliceFits_S2x256x16x64_S2x256x4x64) shapeCasts_S2x256x4x64_S2x256x256

/-- The keys the kernel is launched on. -/
theorem kC_eq (c : Dev nD) : kC m c = truncf .bf16 (headsOf c (m ((c.tc : Thread nD τ).loc main_arg2)) : FVec F S2x256x256 .f32) bitsLt_bf16_f32 := by
  unfold kC V1
  simp only [hostOps0]
  after_results_simp
  refine congrArg (fun f => truncf .bf16 (shapeCast S2x256x256 (Host.dynamicSlice S2x256x4x64 (m ((c.tc : Thread nD τ).loc main_arg2)) f
    sliceFits_S2x256x16x64_S2x256x4x64) shapeCasts_S2x256x4x64_S2x256x256) bitsLt_bf16_f32) ?_
  funext k
  refine congrArg (fun v : IVec S_ 32 => (v (Shape.Idx.first h_S_)).toInt) ?_
  match k with
  | 0 | 1 | 2 | 3 => dsimp only [Matrix.cons_val]; after_results_simp; rfl
/-- The values the kernel is launched on. -/
theorem vC_eq (c : Dev nD) : vC m c = truncf .bf16 (headsOf c (m ((c.tc : Thread nD τ).loc main_arg3)) : FVec F S2x256x256 .f32) bitsLt_bf16_f32 := by
  unfold vC V1
  simp only [hostOps0]
  after_results_simp
  refine congrArg (fun f => truncf .bf16 (shapeCast S2x256x256 (Host.dynamicSlice S2x256x4x64 (m ((c.tc : Thread nD τ).loc main_arg3)) f
    sliceFits_S2x256x16x64_S2x256x4x64) shapeCasts_S2x256x4x64_S2x256x256) bitsLt_bf16_f32) ?_
  funext k
  refine congrArg (fun v : IVec S_ 32 => (v (Shape.Idx.first h_S_)).toInt) ?_
  match k with
  | 0 | 1 | 2 | 3 => dsimp only [Matrix.cons_val]; after_results_simp; rfl

/-- Where the four heads start. -/
theorem start_eq : ∀ (c : Dev nD) (k : Fin 4), Host.clampedStart S2x256x16x64 S2x256x4x64 rfl
    (fun k => ((![constantI S_ 32 0#32, constantI S_ 32 0#32, headWord c, constantI S_ 32 0#32] : Fin 4 → IVec S_ 32) k (Shape.Idx.first h_S_)).toInt) k
      = (![0, 0, 4 * c.val, 0] : Fin 4 → ℕ) k := by decide

/-- Head `h` of device `c` is head `4 c + h` of the sixteen. -/
theorem headsOf_apply {α : Type} (c : Dev nD) (x : S2x256x16x64.Idx → α) (b : Fin 2) (j : Fin 256) (h : Fin 4) (a : Fin 64) :
    headsOf c x (ix3 b j (col h a)) = x (ix4 b j (⟨4 * c.val + h.val, by have : c.val < 4 := c.isLt; omega⟩ : Fin 16) a) := by
  pointwise [headsOf, col]
  congr 2 <;> refine Fin.ext ?_
  · exact (congrArg (· + b.val) (start_eq c 0)).trans (Nat.zero_add _)
  · exact (congrArg (· + j.val) (start_eq c 1)).trans (Nat.zero_add _)
  · exact congrArg (· + h.val) (start_eq c 2)
  · exact (congrArg (· + a.val) (start_eq c 3)).trans (Nat.zero_add _)

/-- The kernel is launched on the program's input, -/
theorem xC_eq (c : Dev nD) : xC m c = m ((c.tc : Thread nD τ).loc main_arg0) := (V1_of m c main_arg0 (by decide)).trans rfl
/-- its query weights -/
theorem wqC_eq (c : Dev nD) : wqC m c = m ((c.tc : Thread nD τ).loc main_arg1) := (V1_of m c main_arg1 (by decide)).trans rfl
/-- and its output weights, unchanged. -/
theorem woC_eq (c : Dev nD) : woC m c = m ((c.tc : Thread nD τ).loc main_arg4) := (V1_of m c main_arg4 (by decide)).trans rfl

/-- Batch `b` of an input block. -/
theorem slab_apply {α : Type} (b : Fin 2) (v : S2x256x512.Idx → α) (r : Fin 256) (d : Fin 512) : slab b v (ix3 0 r d) = v (ix3 b r d) := by
  refine congrArg v ?_
  funext a
  match a with
  | 0 => exact Fin.ext (by show b.val + 1 * 0 = b.val; omega)
  | 1 => exact Fin.ext (by show 0 + 1 * r.val = r.val; omega)
  | 2 => exact Fin.ext (by show 0 + 1 * d.val = d.val; omega)
/-- Batch `b` of a key or value block. -/
theorem slabK_apply {α : Type} (b : Fin 2) (v : S2x256x256.Idx → α) (r : Fin 256) (d : Fin 256) : slabK b v (ix3 0 r d) = v (ix3 b r d) := by
  refine congrArg v ?_
  funext a
  match a with
  | 0 => exact Fin.ext (by show b.val + 1 * 0 = b.val; omega)
  | 1 => exact Fin.ext (by show 0 + 1 * r.val = r.val; omega)
  | 2 => exact Fin.ext (by show 0 + 1 * d.val = d.val; omega)

end Cert.KernelIdeal.Attn
end
-- ==== Proof.RefValue.lean ====
module

public import proofs.«01_k».proof.Proof.Gen.ReferenceIdeal.Run
public import Idealize.ShloMosaic.Lib.Pointwise
public import Idealize.ShloMosaic.Lib.IdealHost
public import Idealize.ShloMosaic.Lib.Routing.OpsOrder

/-! The reference's result read at an index in the extended reals. -/

@[expose] public section

set_option maxRecDepth 16384

noncomputable section

namespace Cert.ReferenceIdeal.Attn

open Idealize.ShloMosaic Idealize.ShloMosaic.TcCoe Idealize.ShloMosaic.StableHlo
open Cert.ReferenceIdeal Cert.ReferenceIdeal.Gen Cert.ReferenceIdeal.Value

/-! ## The steps of the reference -/

/-- The 64-row block of each position: the position divided by 64, rounded down. -/
def blkV : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))
/-- The block of the row, over the square. -/
def rowV : IVec S256x256 32 := broadcastInDim S256x256 ![0, 1] bcast_S256x1_S256x256_0_1 (broadcastInDim S256x1 ![0] bcast_S256_S256x1_0 blkV)
/-- The block of the column, as one row. -/
def colV1 : IVec S1x256 32 := broadcastInDim S1x256 ![1] bcast_S256_S1x256_1 blkV
/-- The block of the column, over the square. -/
def colV : IVec S256x256 32 := broadcastInDim S256x256 ![0, 1] bcast_S1x256_S256x256_0_1 colV1
/-- The divisor three, guarded against zero. -/
def threeV : IVec S_ 32 := select (cmpi .eq (id (constantI S_ 32 3#32)) (constantI S_ 32 0#32)) (constantI S_ 32 1#32) (id (constantI S_ 32 3#32))
/-- The truncated remainder by three of the two blocks' sum. -/
def remV : IVec S256x256 32 := Host.remsi (addi rowV colV) (broadcastInDim S256x256 ![] bcast_S_S256x256 threeV)
/-- Which keys each query may see. -/
def maskV : IVec S256x256 1 :=
  ori (ori (cmpi .eq rowV colV) (broadcastInDim S256x256 ![0, 1] bcast_S1x256_S256x256_0_1
      (cmpi .eq colV1 (broadcastInDim S1x256 ![] bcast_S_S1x256 (constantI S_ 32 0#32)))))
    (cmpi .eq (select (andi (cmpi .ne (cmpi .slt remV (broadcastInDim S256x256 ![] bcast_S_S256x256 (constantI S_ 32 0#32)))
          (broadcastInDim S256x256 ![] bcast_S_S256x256 (cmpi .slt threeV (constantI S_ 32 0#32))))
        (cmpi .ne remV (broadcastInDim S256x256 ![] bcast_S_S256x256 (constantI S_ 32 0#32))))
      (addi remV (broadcastInDim S256x256 ![] bcast_S_S256x256 threeV)) remV)
      (broadcastInDim S256x256 ![] bcast_S_S256x256 (constantI S_ 32 0#32)))
/-- Whether a query sees any key. -/
def keepV : IVec S1x1x256x1 1 :=
  broadcastInDim S1x1x256x1 ![2] bcast_S256_S1x1x256x1_2 (Host.reduce IntOp.ori maskV (constantI S_ 1 0#1) reducesTo_S256x256_S256_d1 h_S_)

variable {F : FTy → Type} [FloatOps F]

/-- The scaled scores. -/
def scoreV (x : FVec F S2x256x512 .f32) (wq : FVec F S512x1024 .f32) (k : FVec F S2x256x16x64 .f32) : FVec F S2x16x256x256 .f32 :=
  mulf (Host.dotGeneral dot_S2x256x16x64_S2x256x16x64_S2x16x256x256_3_3_1_1_02_02 none
      (shapeCast S2x256x16x64 (Host.dotGeneral dot_S2x256x512_S512x1024_S2x256x1024_2_0_01_1_n_n none x wq) shapeCasts_S2x256x1024_S2x256x16x64) k)
    (broadcastInDim S2x16x256x256 ![] bcast_S_S2x16x256x256 (constant S_ .f32 0x3E000000#32))
/-- The excluded keys' scores at −∞. -/
def maskedV (s : FVec F S2x16x256x256 .f32) : FVec F S2x16x256x256 .f32 :=
  select (broadcastInDim S2x16x256x256 ![0, 1, 2, 3] bcast_S1x1x256x256_S2x16x256x256_0_1_2_3
      (broadcastInDim S1x1x256x256 ![2, 3] bcast_S256x256_S1x1x256x256_2_3 maskV)) s
    (broadcastInDim S2x16x256x256 ![] bcast_S_S2x16x256x256 (id (constant S_ .f32 0xFF800000#32)))
/-- The exponentials, each row's maximum subtracted. -/
def expV (t : FVec F S2x16x256x256 .f32) : FVec F S2x16x256x256 .f32 :=
  Host.exp (subf t (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf t (constant S_ .f32 0xFF800000#32) reducesTo_S2x16x256x256_S2x16x256_d3 h_S_))))
/-- The weights: the exponentials over their row's sum. -/
def weightV (p : FVec F S2x16x256x256 .f32) : FVec F S2x16x256x256 .f32 :=
  select (broadcastInDim S2x16x256x256 ![0, 1, 2, 3] bcast_S1x1x256x1_S2x16x256x256_0_1_2_3 keepV)
    (Host.divf p (broadcastInDim S2x16x256x256 ![0, 1, 2, 3] bcast_S2x16x256x1_S2x16x256x256_0_1_2_3
      (select (broadcastInDim S2x16x256x1 ![0, 1, 2, 3] bcast_S1x1x256x1_S2x16x256x1_0_1_2_3 keepV)
        (broadcastInDim S2x16x256x1 ![0, 1, 2] bcast_S2x16x256_S2x16x256x1_0_1_2
          (Host.reduceAdd p (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))
/-- The result from the weights, the values and the output weights. -/
def outV (w : FVec F S2x16x256x256 .f32) (v : FVec F S2x256x16x64 .f32) (wo : FVec F S1024x512 .f32) : FVec F S2x256x512 .f32 :=
  Host.dotGeneral dot_S2x256x1024_S1024x512_S2x256x512_2_0_01_1_n_n none
    (shapeCast S2x256x1024 (transpose S2x256x16x64 [0, 3, 1, 2]
      (Host.dotGeneral dot_S2x256x16x64_S2x16x256x256_S2x16x64x256_1_3_3_2_02_01 none v w)
      transposes_S2x16x64x256_S2x256x16x64_0_3_1_2) shapeCasts_S2x256x16x64_S2x256x1024) wo
/-- The reference. -/
def refV (x : FVec F S2x256x512 .f32) (wq : FVec F S512x1024 .f32) (k v : FVec F S2x256x16x64 .f32) (wo : FVec F S1024x512 .f32) :
    FVec F S2x256x512 .f32 := outV (weightV (expV (maskedV (scoreV x wq k)))) v wo

/-- The program's result is this. -/
theorem res_eq (m : (ℓ : Loc nD τ sig) → Buf (Elt F) ℓ) (c : Dev nD) :
    res_main_v44 m c = refV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The mask at an index -/

/-- Query `r` may see key `j`. -/
def Sees (r j : Fin 256) : Prop := r.val / 64 = j.val / 64 ∨ j.val / 64 = 0 ∨ (r.val / 64 + j.val / 64) % 3 = 0
/-- It is decided by arithmetic. -/
instance (r j : Fin 256) : Decidable (Sees r j) := by unfold Sees; infer_instance

/-- The block of position `r` is `r / 64`. -/
theorem blkV_apply : ∀ r : Fin 256, blkV (ix1 r) = BitVec.ofNat 32 (r.val / 64) := by decide +kernel

/-- The mask on block numbers. -/
theorem mask_blocks : ∀ a b : Fin 4,
    IntOp.ori (IntOp.ori (IntOp.cmpi .eq (BitVec.ofNat 32 a.val) (BitVec.ofNat 32 b.val)) (IntOp.cmpi .eq (BitVec.ofNat 32 b.val) 0#32))
      (IntOp.cmpi .eq
        (Scalar.select
          (IntOp.andi
            (IntOp.cmpi .ne
              (IntOp.cmpi .slt (IntOp.remsi .host (IntOp.addi (BitVec.ofNat 32 a.val) (BitVec.ofNat 32 b.val)) 3#32) 0#32)
              (IntOp.cmpi .slt 3#32 0#32))
            (IntOp.cmpi .ne (IntOp.remsi .host (IntOp.addi (BitVec.ofNat 32 a.val) (BitVec.ofNat 32 b.val)) 3#32) 0#32))
          (IntOp.addi (IntOp.remsi .host (IntOp.addi (BitVec.ofNat 32 a.val) (BitVec.ofNat 32 b.val)) 3#32) 3#32)
          (IntOp.remsi .host (IntOp.addi (BitVec.ofNat 32 a.val) (BitVec.ofNat 32 b.val)) 3#32))
        0#32)
     = BitVec.ofBool (decide (a.val = b.val ∨ b.val = 0 ∨ (a.val + b.val) % 3 = 0)) := by decide +kernel

/-- The guarded divisor is three. -/
theorem threeV_apply : threeV ix0 = 3#32 := by decide

/-- The mask's bit says whether query `r` may see key `j`. -/
theorem maskV_apply (r j : Fin 256) : maskV (ix2 r j) = BitVec.ofBool (decide (Sees r j)) := by
  pointwise [maskV, remV, rowV, colV, colV1]
  simp only [blkV_apply, threeV_apply]
  exact mask_blocks ⟨r.val / 64, by omega⟩ ⟨j.val / 64, by omega⟩

/-- A choice on a decided bit. -/
theorem select_decide {α : Type} (p : Prop) [Decidable p] (x y : α) : Scalar.select (BitVec.ofBool (decide p)) x y = if p then x else y := by
  by_cases h : p
  · rw [if_pos h, decide_eq_true h]; rfl
  · rw [if_neg h, decide_eq_false h]; rfl

/-- Every query sees a key. -/
theorem keepV_apply (r : Fin 256) : keepV (ix4 0 0 r 0) = 1#1 := by
  pointwise [keepV]
  rw [Routing.fold_ori]
  refine ⟨0, Finset.mem_univ _, ?_⟩
  have h : Sees r 0 := Or.inr (Or.inl (by decide))
  rw [maskV_apply, decide_eq_true h]
  rfl

/-! ## The rest at an index -/

/-- The word that stands for −∞. -/
theorem negInf : Ideal.ofBits .f32 0xFF800000#32 = ⊥ := by simp [Ideal.ofBits, Ideal.ieee]

/-- Column `a` of head `h` among the 1024. -/
def col16 (h : Fin 16) (a : Fin 64) : Fin 1024 := ⟨h.val * 64 + a.val, by omega⟩

/-- A score: the projected query against the key, scaled. -/
theorem scoreV_apply (x : FVec Ideal S2x256x512 .f32) (wq : FVec Ideal S512x1024 .f32) (k : FVec Ideal S2x256x16x64 .f32)
    (b : Fin 2) (h : Fin 16) (r j : Fin 256) : scoreV x wq k (ix4 b h r j)
      = (∑ a : Fin 64, (∑ d : Fin 512, x (ix3 b r d) * wq (ix2 d (col16 h a))) * k (ix4 b j h a)) * Ideal.ofBits .f32 0x3E000000#32 := by
  pointwise [scoreV]
  rfl

/-- A masked score. -/
theorem maskedV_apply (s : FVec Ideal S2x16x256x256 .f32) (b : Fin 2) (h : Fin 16) (r j : Fin 256) :
    maskedV s (ix4 b h r j) = if Sees r j then s (ix4 b h r j) else ⊥ := by
  pointwise [maskedV]
  rw [maskV_apply, select_decide]
  exact congrArg (fun z => if Sees r j then s (ix4 b h r j) else z) negInf

/-- An exponential, its row's maximum subtracted. -/
theorem expV_apply (t : FVec Ideal S2x16x256x256 .f32) (b : Fin 2) (h : Fin 16) (r j : Fin 256) :
    expV t (ix4 b h r j) = Ideal.exp (t (ix4 b h r j) - Finset.univ.fold max ⊥ fun x : Fin 256 => t (ix4 b h r x)) := by
  pointwise [expV]
  rw [negInf]

/-- A weight: an exponential over its row's sum. -/
theorem weightV_apply (p : FVec Ideal S2x16x256x256 .f32) (b : Fin 2) (h : Fin 16) (r j : Fin 256) :
    weightV p (ix4 b h r j) = Ideal.div (p (ix4 b h r j)) (∑ x : Fin 256, p (ix4 b h r x)) := by
  pointwise [weightV]
  rw [keepV_apply]
  rfl

/-- The result: over the 1024 columns, the weighted values times the output weight. -/
theorem outV_apply (w : FVec Ideal S2x16x256x256 .f32) (v : FVec Ideal S2x256x16x64 .f32) (wo : FVec Ideal S1024x512 .f32)
    (b : Fin 2) (r : Fin 256) (n : Fin 512) :
    outV w v wo (ix3 b r n) = ∑ E : Fin 1024, (∑ j : Fin 256, v (ix4 b j (⟨E.val / 64, by omega⟩ : Fin 16) (⟨E.val % 64, Nat.mod_lt _ (by decide)⟩ : Fin 64))
      * w (ix4 b (⟨E.val / 64, by omega⟩ : Fin 16) r j)) * wo (ix2 E n) := by
  pointwise [outV]

/-- The reference at an index: over the 1024 columns of the heads, one row of attention times the output weight. -/
theorem refV_apply (x : FVec Ideal S2x256x512 .f32) (wq : FVec Ideal S512x1024 .f32) (k v : FVec Ideal S2x256x16x64 .f32)
    (wo : FVec Ideal S1024x512 .f32) (b : Fin 2) (r : Fin 256) (n : Fin 512) :
    refV x wq k v wo (ix3 b r n) = ∑ E : Fin 1024, (∑ j : Fin 256,
      v (ix4 b j (⟨E.val / 64, by omega⟩ : Fin 16) (⟨E.val % 64, Nat.mod_lt _ (by decide)⟩ : Fin 64))
        * weightV (expV (maskedV (scoreV x wq k))) (ix4 b (⟨E.val / 64, by omega⟩ : Fin 16) r j)) * wo (ix2 E n) := by
  rw [refV, outV_apply]

end Cert.ReferenceIdeal.Attn
end
-- ==== Proof.Value.lean ====
module

public import proofs.«01_k».proof.Proof.Frames
public import proofs.«01_k».proof.Proof.Attend
public import proofs.«01_k».proof.Proof.DeviceValue
public import proofs.«01_k».proof.Proof.RefValue

/-! The devices' result is the reference's: the four devices' heads are the sixteen heads, and each row of attention is
    the same whether the excluded keys are left out or weighted by zero. -/

@[expose] public section

set_option maxRecDepth 16384

noncomputable section

namespace Cert.Proof.Value

open Idealize.ShloMosaic Idealize.ShloMosaic.TcCoe Idealize.SL.Sem
open Cert.KernelIdeal.Attn Cert.ReferenceIdeal.Attn Cert.Attend

/-! ## One row -/

/-- The middle rows see exactly the first 192 keys. -/
theorem sees_mid (r j : Fin 256) (h : 64 ≤ r.val ∧ r.val < 192) : Sees r j ↔ ∃ k, midKeys k = j := by
  unfold Sees
  constructor
  · intro hs
    exact ⟨⟨j.val, by omega⟩, rfl⟩
  · rintro ⟨k, rfl⟩
    have hk := k.isLt
    show r.val / 64 = k.val / 64 ∨ k.val / 64 = 0 ∨ (r.val / 64 + k.val / 64) % 3 = 0
    omega

/-- The other rows see exactly the first and the last 64 keys. -/
theorem sees_end (r j : Fin 256) (h : ¬(64 ≤ r.val ∧ r.val < 192)) : Sees r j ↔ ∃ k, endKeys k = j := by
  unfold Sees
  constructor
  · intro hs
    by_cases hj : j.val < 64
    · exact ⟨.inl ⟨j.val, hj⟩, rfl⟩
    · exact ⟨.inr ⟨j.val - 192, by omega⟩, Fin.ext (by show 192 + (j.val - 192) = j.val; omega)⟩
  · rintro ⟨k | k, rfl⟩
    · have hk := k.isLt
      show r.val / 64 = k.val / 64 ∨ k.val / 64 = 0 ∨ (r.val / 64 + k.val / 64) % 3 = 0
      omega
    · have hk := k.isLt
      show r.val / 64 = (192 + k.val) / 64 ∨ (192 + k.val) / 64 = 0 ∨ (r.val / 64 + (192 + k.val) / 64) % 3 = 0
      omega

/-- No key of a middle row is listed twice. -/
theorem midKeys_injective : Function.Injective midKeys := fun a b h => Fin.ext (congrArg (fun z : Fin 256 => z.val) h)

/-- No key of another row is listed twice. -/
theorem endKeys_injective : Function.Injective endKeys := by
  rintro (a | a) (b | b) h <;> have h' := congrArg Fin.val h <;> have ha := a.isLt <;> have hb := b.isLt
  · exact congrArg Sum.inl (Fin.ext h')
  · have h'' : a.val = 192 + b.val := h'
    omega
  · have h'' : 192 + a.val = b.val := h'
    omega
  · have h'' : 192 + a.val = 192 + b.val := h'
    exact congrArg Sum.inr (Fin.ext (by omega))

/-- A device's row of attention, where the scores are real, is the masked row with the maximum subtracted. -/
theorem row_eq (r : Fin 256) (q : Fin 64 → EReal) (k : Fin 256 → Fin 64 → EReal) (v : Fin 256 → EReal) (s : Fin 256 → ℝ)
    (hs : ∀ j, ∑ a, q a * k j a = (s j : EReal)) (t : Fin 256 → EReal) (ht : ∀ j, t j = if Sees r j then (s j : EReal) else ⊥) :
    row r q k v = ∑ j, v j * Ideal.div (Ideal.exp (t j - Finset.univ.fold max ⊥ t)) (∑ j', Ideal.exp (t j' - Finset.univ.fold max ⊥ t)) := by
  unfold row
  split
  · rw [attend s midKeys midKeys_injective (Sees r) (fun j => sees_mid r j ‹_›) v t ht]
    simp only [attRow, hs]
  · rw [attend s endKeys endKeys_injective (Sees r) (fun j => sees_end r j ‹_›) v t ht]
    simp only [attRow, hs]

/-! ## Heads and blocks -/

/-- Head `h` of device `d` among the sixteen. -/
def head (d h : Fin 4) : Fin 16 := ⟨4 * d.val + h.val, by omega⟩

/-- A device's columns of the query weights. -/
theorem wq_block (d h : Fin 4) (WQ : FVec Ideal Cert.ReferenceIdeal.S512x1024 .f32) (a : Fin 64) (x : Fin 512) :
    Layout.block ⟨2, ![512, 256]⟩ ⟨2, ![512, 1024]⟩ 1 4 d WQ (by decide) (ix2 x (col h a)) = WQ (ix2 x (col16 (head d h) a)) := by
  refine congrArg WQ ?_
  funext b
  match b with
  | 0 => rfl
  | 1 => exact Fin.ext (by show d.val * 256 + (64 * h.val + a.val) = (4 * d.val + h.val) * 64 + a.val; omega)

/-- A device's rows of the output weights. -/
theorem wo_block (d h : Fin 4) (WO : FVec Ideal Cert.ReferenceIdeal.S1024x512 .f32) (e : Fin 64) (n : Fin 512) :
    Layout.block ⟨2, ![256, 512]⟩ ⟨2, ![1024, 512]⟩ 0 4 d WO (by decide) (ix2 (col h e) n) = WO (ix2 (col16 (head d h) e) n) := by
  refine congrArg WO ?_
  funext b
  match b with
  | 0 => exact Fin.ext (by show d.val * 256 + (64 * h.val + e.val) = (4 * d.val + h.val) * 64 + e.val; omega)
  | 1 => rfl

/-- A sum over 256 columns, head by head. -/
theorem sum_heads (f : Fin 256 → EReal) : ∑ E, f E = ∑ h : Fin 4, ∑ e : Fin 64, f (col h e) := by
  rw [Fin.sum_univ_tiles 4 64 rfl f]
  refine Finset.sum_congr rfl fun h _ => Finset.sum_congr rfl fun e _ => congrArg f (Fin.ext ?_)
  show h.val * 64 + e.val = 64 * h.val + e.val
  omega

/-- A sum over 1024 columns, device by device and head by head. -/
theorem sum_all (f : Fin 1024 → EReal) : ∑ E, f E = ∑ d : Fin 4, ∑ h : Fin 4, ∑ e : Fin 64, f (col16 (head d h) e) := by
  rw [Fin.sum_univ_tiles 4 256 rfl f]
  refine Finset.sum_congr rfl fun d _ => ?_
  rw [sum_heads]
  refine Finset.sum_congr rfl fun h _ => Finset.sum_congr rfl fun e _ => congrArg f (Fin.ext ?_)
  show d.val * 256 + (64 * h.val + e.val) = (4 * d.val + h.val) * 64 + e.val
  omega

/-- The scale: one eighth. -/
theorem eighth : Ideal.ofBits .f32 0x3E000000#32 = ((1 / 8 : ℝ) : EReal) := by
  simp [Ideal.ofBits, Ideal.ieee]
  rw [← EReal.coe_mul]
  norm_num

/-! ## The result -/

section
variable (m : (ℓ : Loc Cert.KernelIdeal.nD Cert.KernelIdeal.τ Cert.KernelIdeal.sig) → Buf (Elt Ideal) ℓ)
  (X : FVec Ideal Cert.ReferenceIdeal.S2x256x512 .f32) (WQ : FVec Ideal Cert.ReferenceIdeal.S512x1024 .f32)
  (K V : FVec Ideal Cert.ReferenceIdeal.S2x256x16x64 .f32) (WO : FVec Ideal Cert.ReferenceIdeal.S1024x512 .f32)

/-- A device's head, at a row and a column, is the reference's. -/
theorem head_eq (d h : Fin 4) (hx : xC m d = X) (hwq : wqC m d = Layout.block ⟨2, ![512, 256]⟩ ⟨2, ![512, 1024]⟩ 1 4 d WQ)
    (hk : ∀ b j h a, kC m d (ix3 b j (col h a)) = K (ix4 b j (head d h) a)) (hv : ∀ b j h a, vC m d (ix3 b j (col h a)) = V (ix4 b j (head d h) a))
    (xr : Fin 2 → Fin 256 → Fin 512 → ℝ) (wr : Fin 512 → Fin 1024 → ℝ) (kr : Fin 2 → Fin 256 → Fin 16 → Fin 64 → ℝ)
    (hX : ∀ b r x, X (ix3 b r x) = (xr b r x : EReal)) (hW : ∀ x n, WQ (ix2 x n) = (wr x n : EReal))
    (hK : ∀ b j h a, K (ix4 b j h a) = (kr b j h a : EReal)) (b : Fin 2) (r : Fin 256) (e : Fin 64) :
    ctxC m d b (ix2 r (col h e)) = ∑ j : Fin 256, V (ix4 b j (head d h) e) * weightV (expV (maskedV (scoreV X WQ K))) (ix4 b (head d h) r j) := by
  have hsc : ∀ j, _ := fun j => score_scale (fun x => xr b r x) (fun x a => wr x (col16 (head d h) a)) (fun a => kr b j (head d h) a) (1 / 8)
  rw [ctxC, ctxOf_apply, headOut_apply]
  simp only [qOf_apply, slab_apply, slabK_apply, hk, hv]
  rw [row_eq r _ _ _ (fun j => (∑ a, (∑ x, xr b r x * wr x (col16 (head d h) a)) * kr b j (head d h) a) * (1 / 8)) ?_
    (fun j => maskedV (scoreV X WQ K) (ix4 b (head d h) r j)) ?_]
  · simp only [weightV_apply, expV_apply]
  · intro j
    rw [hx, hwq]
    simp only [wq_block, hX, hW, hK, eighth]
    exact (hsc j).1
  · intro j
    rw [maskedV_apply, scoreV_apply]
    simp only [hX, hW, hK, eighth]
    rw [(hsc j).2]

/-- Every device ends with the reference's result. -/
theorem A2_eq (hx : ∀ d, xC m d = X) (hwq : ∀ d, wqC m d = Layout.block ⟨2, ![512, 256]⟩ ⟨2, ![512, 1024]⟩ 1 4 d WQ)
    (hk : ∀ d b j h a, kC m d (ix3 b j (col h a)) = K (ix4 b j (head d h) a)) (hv : ∀ d b j h a, vC m d (ix3 b j (col h a)) = V (ix4 b j (head d h) a))
    (hwo : ∀ d, woC m d = Layout.block ⟨2, ![256, 512]⟩ ⟨2, ![1024, 512]⟩ 0 4 d WO)
    (xr : Fin 2 → Fin 256 → Fin 512 → ℝ) (wr : Fin 512 → Fin 1024 → ℝ) (kr : Fin 2 → Fin 256 → Fin 16 → Fin 64 → ℝ)
    (hX : ∀ b r x, X (ix3 b r x) = (xr b r x : EReal)) (hW : ∀ x n, WQ (ix2 x n) = (wr x n : EReal))
    (hK : ∀ b j h a, K (ix4 b j h a) = (kr b j h a : EReal)) (c : Fin 4) : A2 m c = refV X WQ K V WO := by
  funext i
  obtain ⟨b, r, n, rfl⟩ : ∃ (b : Fin 2) (r : Fin 256) (n : Fin 512), i = ix3 b r n := ⟨i 0, i 1, i 2, eq_ix3 i⟩
  rw [A2_apply, refV_apply, sum_all]
  refine Finset.sum_congr rfl fun d _ => ?_
  rw [A0_apply, sum_heads]
  refine Finset.sum_congr rfl fun h _ => Finset.sum_congr rfl fun e _ => ?_
  rw [head_eq m X WQ K V d h (hx d) (hwq d) (hk d) (hv d) xr wr kr hX hW hK, hwo, wo_block]
  have h1 : (⟨(col16 (head d h) e).val / 64, by omega⟩ : Fin 16) = head d h :=
    Fin.ext (by show ((4 * d.val + h.val) * 64 + e.val) / 64 = 4 * d.val + h.val; omega)
  have h2 : (⟨(col16 (head d h) e).val % 64, Nat.mod_lt _ (by decide)⟩ : Fin 64) = e :=
    Fin.ext (by show ((4 * d.val + h.val) * 64 + e.val) % 64 = e.val; omega)
  rw [h1, h2]

end

/-! ## The claim -/

instance : Cert.Pre_finite_KernelIdeal.Facts := ⟨by decide, by decide, by decide⟩
instance : Cert.Pre_finite_ReferenceIdeal.Facts := ⟨by decide, by decide, by decide⟩

/-- A value whose magnitude is below `⊤` is a real number. -/
theorem real_of_finite (a : EReal) (h : Ideal.cmp .olt (max a (-a)) (Ideal.ofBits .f32 0x7F800000#32) = 1#1) : ∃ y : ℝ, a = (y : EReal) := by
  have hinf : Ideal.ofBits .f32 0x7F800000#32 = ⊤ := by simp [Ideal.ofBits, Ideal.ieee]
  have hlt : max a (-a) < ⊤ := by
    by_contra hn
    rw [hinf] at h
    exact absurd (h.symm.trans (show Ideal.cmp .olt (max a (-a)) ⊤ = 0#1 by
      show BitVec.ofBool (decide (max a (-a) < ⊤)) = 0#1
      rw [decide_eq_false hn]; rfl)) (by decide)
  have h1 : a ≠ ⊤ := fun e => by rw [e, max_eq_left le_top] at hlt; exact lt_irrefl _ hlt
  have h2 : a ≠ ⊥ := fun e => by rw [e, EReal.neg_bot, max_eq_right le_top] at hlt; exact lt_irrefl _ hlt
  exact ⟨a.toReal, (EReal.coe_toReal h1 h2).symm⟩

/-- The kernel on four devices computes what the reference computes on one, on finite inputs, queries' weights and keys. -/
theorem algebraic : Cert.algebraic_KernelIdeal_ReferenceIdeal_pre_finite_KernelIdeal := by
  intro m g m' g' hpre hm
  obtain ⟨X, hX0⟩ : ∃ X : FVec Ideal Cert.ReferenceIdeal.S2x256x512 .f32,
    m' (((0 : Dev Cert.ReferenceIdeal.nD).tc : Thread Cert.ReferenceIdeal.nD Cert.ReferenceIdeal.τ).loc Cert.ReferenceIdeal.main_arg0) = X := ⟨_, rfl⟩
  obtain ⟨WQ, hWQ0⟩ : ∃ WQ : FVec Ideal Cert.ReferenceIdeal.S512x1024 .f32,
    m' (((0 : Dev Cert.ReferenceIdeal.nD).tc : Thread Cert.ReferenceIdeal.nD Cert.ReferenceIdeal.τ).loc Cert.ReferenceIdeal.main_arg1) = WQ := ⟨_, rfl⟩
  obtain ⟨WO, hWO0⟩ : ∃ WO : FVec Ideal Cert.ReferenceIdeal.S1024x512 .f32,
    m' (((0 : Dev Cert.ReferenceIdeal.nD).tc : Thread Cert.ReferenceIdeal.nD Cert.ReferenceIdeal.τ).loc Cert.ReferenceIdeal.main_arg4) = WO := ⟨_, rfl⟩
  obtain ⟨K, hK0⟩ : ∃ K : FVec Ideal Cert.ReferenceIdeal.S2x256x16x64 .f32,
    m' (((0 : Dev Cert.ReferenceIdeal.nD).tc : Thread Cert.ReferenceIdeal.nD Cert.ReferenceIdeal.τ).loc Cert.ReferenceIdeal.main_arg2) = K := ⟨_, rfl⟩
  obtain ⟨V, hV0⟩ : ∃ V : FVec Ideal Cert.ReferenceIdeal.S2x256x16x64 .f32,
    m' (((0 : Dev Cert.ReferenceIdeal.nD).tc : Thread Cert.ReferenceIdeal.nD Cert.ReferenceIdeal.τ).loc Cert.ReferenceIdeal.main_arg3) = V := ⟨_, rfl⟩
  have hx : ∀ d, xC m d = X := fun d => by rw [xC_eq, ← hX0]; exact (hm d).1
  have hwq : ∀ d, wqC m d = Layout.block ⟨2, ![512, 256]⟩ ⟨2, ![512, 1024]⟩ 1 4 d WQ := fun d => by rw [wqC_eq, ← hWQ0]; exact (hm d).2.1
  have hwo : ∀ d, woC m d = Layout.block ⟨2, ![256, 512]⟩ ⟨2, ![1024, 512]⟩ 0 4 d WO := fun d => by
    rw [woC_eq, ← hWO0]; exact (hm d).2.2.2.2
  have hk : ∀ (d : Fin 4) (b : Fin 2) (j : Fin 256) (h : Fin 4) (a : Fin 64), kC m d (ix3 b j (col h a)) = K (ix4 b j (head d h) a) := fun d b j h a => by
    rw [kC_eq, ← hK0, ← (hm d).2.2.1]
    exact headsOf_apply d _ b j h a
  have hv : ∀ (d : Fin 4) (b : Fin 2) (j : Fin 256) (h : Fin 4) (a : Fin 64), vC m d (ix3 b j (col h a)) = V (ix4 b j (head d h) a) := fun d b j h a => by
    rw [vC_eq, ← hV0, ← (hm d).2.2.2.1]
    exact headsOf_apply d _ b j h a
  have hX : ∀ (b : Fin 2) (r : Fin 256) (x : Fin 512), ∃ y : ℝ, X (ix3 b r x) = (y : EReal) := fun b r x =>
    real_of_finite _ (by rw [← hX0, ← (hm 0).1]; exact congrFun (hpre 0).1 (ix3 b r x))
  have hW : ∀ (x : Fin 512) (n : Fin 1024), ∃ y : ℝ, WQ (ix2 x n) = (y : EReal) := fun x n => by
    obtain ⟨d, h, a, rfl⟩ : ∃ (d h : Fin 4) (a : Fin 64), n = col16 (head d h) a :=
      ⟨⟨n.val / 256, by omega⟩, ⟨n.val / 64 % 4, by omega⟩, ⟨n.val % 64, by omega⟩,
        Fin.ext (by show n.val = (4 * (n.val / 256) + n.val / 64 % 4) * 64 + n.val % 64; omega)⟩
    obtain ⟨y, hy⟩ := real_of_finite (wqC m d (ix2 x (col h a))) (by rw [wqC_eq]; exact congrFun (hpre d).2.1 (ix2 x (col h a)))
    exact ⟨y, by rw [← hy, hwq, wq_block]⟩
  have hK : ∀ (b : Fin 2) (j : Fin 256) (h : Fin 16) (a : Fin 64), ∃ y : ℝ, K (ix4 b j h a) = (y : EReal) := fun b j h a =>
    real_of_finite _ (by rw [← hK0, ← (hm 0).2.2.1]; exact congrFun (hpre 0).2.2 (ix4 b j h a))
  choose xr hX using hX
  choose wr hW using hW
  choose kr hK using hK
  refine ⟨refV X WQ K V WO, ?_, ?_⟩
  · refine (θ_run (Cert.KernelIdeal.defs (F := Ideal)) _ _).mono (fun _ h c => ?_) (run_main (F := Ideal) m g)
    exact ⟨(h.1 c).1.trans (A2_eq m X WQ K V WO hx hwq hk hv hwo xr wr kr hX hW hK c), (h.1 c).2⟩
  · refine (θ_run (Cert.ReferenceIdeal.defs (F := Ideal)) _ _).mono (fun _ h => ?_) (Cert.ReferenceIdeal.Value.run (F := Ideal) m' g')
    refine ⟨(h 0).1.trans ((res_eq m' 0).trans ?_), (h 0).2⟩
    rw [hX0, hWQ0, hK0, hV0, hWO0]

end Cert.Proof.Value
end
-- ==== Proof.lean ====
module

public import proofs.«01_k».proof.Proof.Frames
public import proofs.«01_k».proof.Proof.Value

@[expose] public section

noncomputable section

namespace Cert.Proof

/-- The certificate's claims, with the witnesses of the programs' stated facts. The frames hold from every memory, so
    also from those that meet the precondition. -/
theorem claim : Cert.Claim :=
  ⟨Cert.Kernel.Gen.facts, Cert.KernelIdeal.Gen.facts, Cert.ReferenceIdeal.Gen.facts, inferInstance, inferInstance,
    Cert.KernelIdeal.Attn.frame_kernel, Cert.KernelIdeal.Attn.frame_ideal,
    fun m g _ => Cert.KernelIdeal.Attn.frame_ideal m g trivial, Cert.KernelIdeal.Attn.frame_reference,
    fun m g _ => Cert.KernelIdeal.Attn.frame_reference m g trivial, trivial, Cert.Proof.Value.algebraic⟩

end Cert.Proof

end
